-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_floats_finite [hPre_floats_finite : Cert.Pre_floats_finite.Facts] (m : (ℓ : Loc Cert.KernelIdeal.nD Cert.KernelIdeal.τ Cert.KernelIdeal.sig) → Buf (Elt Ideal) ℓ) : Prop :=
  ∀ c : Dev Cert.KernelIdeal.nD,
    (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_floats_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_floats_finite [hPre_floats_finite : Cert.Pre_floats_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_floats_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_floats_finite [hKernelIdeal : Cert.KernelIdeal.Facts] [hPre_floats_finite : Cert.Pre_floats_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_floats_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_floats_finite [hReferenceIdeal : Cert.ReferenceIdeal.Facts] [hPre_floats_finite : Cert.Pre_floats_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_floats_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_floats_finite [hKernelIdeal : Cert.KernelIdeal.Facts] [hReferenceIdeal : Cert.ReferenceIdeal.Facts] [hPre_floats_finite : Cert.Pre_floats_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_floats_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_floats_finite : Cert.Pre_floats_finite.Facts),
    quiescent_Kernel (hKernel := hKernel)
    ∧ quiescent_KernelIdeal (hKernelIdeal := hKernelIdeal)
    ∧ quiescent_KernelIdeal_pre_floats_finite (hKernelIdeal := hKernelIdeal) (hPre_floats_finite := hPre_floats_finite)
    ∧ quiescent_ReferenceIdeal (hReferenceIdeal := hReferenceIdeal)
    ∧ quiescent_ReferenceIdeal_pre_floats_finite (hReferenceIdeal := hReferenceIdeal) (hPre_floats_finite := hPre_floats_finite)
    ∧ preserves_Kernel_KernelIdeal
    ∧ algebraic_KernelIdeal_ReferenceIdeal_pre_floats_finite (hKernelIdeal := hKernelIdeal) (hReferenceIdeal := hReferenceIdeal) (hPre_floats_finite := hPre_floats_finite)
-- ==== Pre_floats_finite.lean ====
abbrev S10000x128 : Shape := ⟨2, ![10000, 128]⟩
abbrev S10000x6 : Shape := ⟨2, ![10000, 6]⟩
abbrev S10000 : Shape := ⟨1, ![10000]⟩
abbrev S128x128 : Shape := ⟨2, ![128, 128]⟩
abbrev S6x64 : Shape := ⟨2, ![6, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  bcast_S_S10000x6 : S_.BroadcastsInDim S10000x6 (![] : Fin 0 → Fin S10000x6.rank)
  bcast_S_S128x128 : S_.BroadcastsInDim S128x128 (![] : Fin 0 → Fin S128x128.rank)
  bcast_S_S6x64 : S_.BroadcastsInDim S6x64 (![] : Fin 0 → Fin S6x64.rank)
  bcast_S_S64 : S_.BroadcastsInDim S64 (![] : Fin 0 → Fin S64.rank)
  bcast_S_S64x128 : S_.BroadcastsInDim S64x128 (![] : Fin 0 → Fin S64x128.rank)
  bcast_S_S128 : S_.BroadcastsInDim S128 (![] : Fin 0 → Fin S128.rank)

variable [Facts]

def fn_part1 {F : FTy → Type} [FloatOps F] (main_arg7 : FVec F S64 .f32) (main_arg8 : FVec F S64x128 .f32) (main_arg9 : FVec F S128 .f32) (main_arg10 : FVec F S128x128 .f32) (main_arg11 : FVec F S128 .f32) (main_v2 : IVec S10000x128 1) (main_v5 : IVec S10000x6 1) (main_v8 : IVec S128x128 1) (main_v11 : IVec S128x128 1) (main_v14 : IVec S128x128 1) (main_v17 : IVec S6x64 1) : IVec S10000x128 1 × IVec S10000x6 1 × IVec S128x128 1 × IVec S128x128 1 × IVec S128x128 1 × IVec S6x64 1 × IVec S64 1 × IVec S64x128 1 × IVec S128 1 × IVec S128x128 1 × IVec S128 1 :=
  let main_v18 : FVec F S64 .f32 := Host.absf main_arg7
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x128 .f32 := Host.absf main_arg8
  let main_cst_6 : FVec F S_ .f32 := constant S_ .f32 0x7F800000#32
  let main_v22 : FVec F S64x128 .f32 := broadcastInDim S64x128 ![] bcast_S_S64x128 main_cst_6
  let main_v23 : IVec S64x128 1 := cmpf .olt main_v21 main_v22
  let main_v24 : FVec F S128 .f32 := Host.absf main_arg9
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S128x128 .f32 := Host.absf main_arg10
  let main_cst_8 : FVec F S_ .f32 := constant S_ .f32 0x7F800000#32
  let main_v28 : FVec F S128x128 .f32 := broadcastInDim S128x128 ![] bcast_S_S128x128 main_cst_8
  let main_v29 : IVec S128x128 1 := cmpf .olt main_v27 main_v28
  let main_v30 : FVec F S128 .f32 := Host.absf main_arg11
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  (main_v2, main_v5, main_v8, main_v11, main_v14, main_v17, main_v20, main_v23, main_v26, main_v29, main_v32)

def fn {F : FTy → Type} [FloatOps F] (main_arg0 : FVec F S10000x128 .f32) (main_arg1 : FVec F S10000x6 .f32) (main_arg2 : IVec S10000 32) (main_arg3 : FVec F S128x128 .f32) (main_arg4 : FVec F S128x128 .f32) (main_arg5 : FVec F S128x128 .f32) (main_arg6 : FVec F S6x64 .f32) (main_arg7 : FVec F S64 .f32) (main_arg8 : FVec F S64x128 .f32) (main_arg9 : FVec F S128 .f32) (main_arg10 : FVec F S128x128 .f32) (main_arg11 : FVec F S128 .f32) : IVec S10000x128 1 × IVec S10000x6 1 × IVec S128x128 1 × IVec S128x128 1 × IVec S128x128 1 × IVec S6x64 1 × IVec S64 1 × IVec S64x128 1 × IVec S128 1 × IVec S128x128 1 × IVec S128 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x6 .f32 := Host.absf main_arg1
  let main_cst_0 : FVec F S_ .f32 := constant S_ .f32 0x7F800000#32
  let main_v4 : FVec F S10000x6 .f32 := broadcastInDim S10000x6 ![] bcast_S_S10000x6 main_cst_0
  let main_v5 : IVec S10000x6 1 := cmpf .olt main_v3 main_v4
  let main_v6 : FVec F S128x128 .f32 := Host.absf main_arg3
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128x128 .f32 := Host.absf main_arg5
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S6x64 .f32 := Host.absf main_arg6
  let main_cst_4 : FVec F S_ .f32 := constant S_ .f32 0x7F800000#32
  let main_v16 : FVec F S6x64 .f32 := broadcastInDim S6x64 ![] bcast_S_S6x64 main_cst_4
  let main_v17 : IVec S6x64 1 := cmpf .olt main_v15 main_v16
  fn_part1 (F := F) main_arg7 main_arg8 main_arg9 main_arg10 main_arg11 main_v2 main_v5 main_v8 main_v11 main_v14 main_v17
-- ==== Kernel.lean ====
abbrev S10000x128 : Shape := ⟨2, ![10000, 128]⟩
abbrev S10000x6 : Shape := ⟨2, ![10000, 6]⟩
abbrev S10000 : Shape := ⟨1, ![10000]⟩
abbrev S128x128 : Shape := ⟨2, ![128, 128]⟩
abbrev S6x64 : Shape := ⟨2, ![6, 64]⟩
abbrev S64 : Shape := ⟨1, ![64]⟩
abbrev S64x128 : Shape := ⟨2, ![64, 128]⟩
abbrev S128 : Shape := ⟨1, ![128]⟩
abbrev S6x10000 : Shape := ⟨2, ![6, 10000]⟩
abbrev S6x2500 : Shape := ⟨2, ![6, 2500]⟩
abbrev S1x10000 : Shape := ⟨2, ![1, 10000]⟩
abbrev S1x2500 : Shape := ⟨2, ![1, 2500]⟩
abbrev S6 : Shape := ⟨1, ![6]⟩
abbrev S6x1 : Shape := ⟨2, ![6, 1]⟩
abbrev S1x1x10000 : Shape := ⟨3, ![1, 1, 10000]⟩
abbrev S1 : Shape := ⟨1, ![1]⟩
abbrev S1x1x1 : Shape := ⟨3, ![1, 1, 1]⟩
abbrev S_ : Shape := ⟨0, ![]⟩
abbrev S6x2560 : Shape := ⟨2, ![6, 2560]⟩
abbrev S64x2560 : Shape := ⟨2, ![64, 2560]⟩
abbrev S6x128 : Shape := ⟨2, ![6, 128]⟩
abbrev S10000x1 : Shape := ⟨2, ![10000, 1]⟩
abbrev S1x128 : Shape := ⟨2, ![1, 128]⟩
abbrev S64x1 : Shape := ⟨2, ![64, 1]⟩
abbrev S1x64 : Shape := ⟨2, ![1, 64]⟩
abbrev S1000x128 : Shape := ⟨2, ![1000, 128]⟩
abbrev S2560x64 : Shape := ⟨2, ![2560, 64]⟩
abbrev S163840 : Shape := ⟨1, ![163840]⟩
abbrev S163840x1 : Shape := ⟨2, ![163840, 1]⟩
abbrev S1x1 : Shape := ⟨2, ![1, 1]⟩
abbrev S163840x6 : Shape := ⟨2, ![163840, 6]⟩
abbrev S163840x128 : Shape := ⟨2, ![163840, 128]⟩
abbrev S2500x6 : Shape := ⟨2, ![2500, 6]⟩
abbrev S2560x6 : Shape := ⟨2, ![2560, 6]⟩
abbrev S2560x64x6 : Shape := ⟨3, ![2560, 64, 6]⟩
abbrev S2500x128 : Shape := ⟨2, ![2500, 128]⟩
abbrev S2560x128 : Shape := ⟨2, ![2560, 128]⟩
abbrev S2560x64x128 : Shape := ⟨3, ![2560, 64, 128]⟩
abbrev S2048x6 : Shape := ⟨2, ![2048, 6]⟩
abbrev S2048x128 : Shape := ⟨2, ![2048, 128]⟩
abbrev S2048x1 : Shape := ⟨2, ![2048, 1]⟩
abbrev S32x128 : Shape := ⟨2, ![32, 128]⟩
abbrev S2048x64 : Shape := ⟨2, ![2048, 64]⟩
abbrev S32x64x128 : Shape := ⟨3, ![32, 64, 128]⟩
abbrev S32x64x1 : Shape := ⟨3, ![32, 64, 1]⟩
abbrev S32x1x128 : Shape := ⟨3, ![32, 1, 128]⟩
abbrev S7500x128 : Shape := ⟨2, ![7500, 128]⟩

abbrev nBuf : Space → Nat
  | .hbm => 124
  | .vmem => 53
  | .smem => 0
  | _ => 0

abbrev bufTy : (tb : Table) → Fin (tcTables nBuf tb) → BufTy
  | .hbm, ⟨0, _⟩ => ⟨S10000x128, .f32⟩
  | .hbm, ⟨1, _⟩ => ⟨S10000x6, .f32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S6x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S6x10000, .f32⟩
  | .hbm, ⟨13, _⟩ => ⟨S6x2500, .f32⟩
  | .hbm, ⟨14, _⟩ => ⟨S_, .f32⟩
  | .hbm, ⟨15, _⟩ => ⟨S_, .f32⟩
  | .hbm, ⟨16, _⟩ => ⟨S6x2560, .f32⟩
  | .hbm, ⟨17, _⟩ => ⟨S64x2560, .i32⟩
  | .hbm, ⟨18, _⟩ => ⟨S64x2560, .f32⟩
  | .hbm, ⟨19, _⟩ => ⟨S1x64, .f32⟩
  | .hbm, ⟨20, _⟩ => ⟨S1x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S2560x64, .i32⟩
  | .hbm, ⟨28, _⟩ => ⟨S163840, .i32⟩
  | .hbm, ⟨29, _⟩ => ⟨S2560x64, .f32⟩
  | .hbm, ⟨30, _⟩ => ⟨S163840x1, .f32⟩
  | .hbm, ⟨31, _⟩ => ⟨S_, .i32⟩
  | .hbm, ⟨32, _⟩ => ⟨S163840, .i32⟩
  | .hbm, ⟨33, _⟩ => ⟨S163840, .i1⟩
  | .hbm, ⟨34, _⟩ => ⟨S_, .i32⟩
  | .hbm, ⟨35, _⟩ => ⟨S163840, .i32⟩
  | .hbm, ⟨36, _⟩ => ⟨S163840, .i32⟩
  | .hbm, ⟨37, _⟩ => ⟨S163840, .i32⟩
  | .hbm, ⟨38, _⟩ => ⟨S163840x1, .i32⟩
  | .hbm, ⟨39, _⟩ => ⟨S1, .i32⟩
  | .hbm, ⟨40, _⟩ => ⟨S_, .i32⟩
  | .hbm, ⟨41, _⟩ => ⟨S163840x1, .i32⟩
  | .hbm, ⟨42, _⟩ => ⟨S163840x1, .i1⟩
  | .hbm, ⟨43, _⟩ => ⟨S1x1, .i32⟩
  | .hbm, ⟨44, _⟩ => ⟨S163840x1, .i32⟩
  | .hbm, ⟨45, _⟩ => ⟨S163840x1, .i1⟩
  | .hbm, ⟨46, _⟩ => ⟨S163840x1, .i1⟩
  | .hbm, ⟨47, _⟩ => ⟨S_, .i1⟩
  | .hbm, ⟨48, _⟩ => ⟨S163840, .i1⟩
  | .hbm, ⟨49, _⟩ => ⟨S163840x6, .f32⟩
  | .hbm, ⟨50, _⟩ => ⟨S163840x6, .i1⟩
  | .hbm, ⟨51, _⟩ => ⟨S_, .f32⟩
  | .hbm, ⟨52, _⟩ => ⟨S163840x6, .f32⟩
  | .hbm, ⟨53, _⟩ => ⟨S163840x6, .f32⟩
  | .hbm, ⟨54, _⟩ => ⟨S_, .i32⟩
  | .hbm, ⟨55, _⟩ => ⟨S163840, .i32⟩
  | .hbm, ⟨56, _⟩ => ⟨S163840, .i1⟩
  | .hbm, ⟨57, _⟩ => ⟨S_, .i32⟩
  | .hbm, ⟨58, _⟩ => ⟨S163840, .i32⟩
  | .hbm, ⟨59, _⟩ => ⟨S163840, .i32⟩
  | .hbm, ⟨60, _⟩ => ⟨S163840, .i32⟩
  | .hbm, ⟨61, _⟩ => ⟨S163840x1, .i32⟩
  | .hbm, ⟨62, _⟩ => ⟨S1, .i32⟩
  | .hbm, ⟨63, _⟩ => ⟨S_, .i32⟩
  | .hbm, ⟨64, _⟩ => ⟨S163840x1, .i32⟩
  | .hbm, ⟨65, _⟩ => ⟨S163840x1, .i1⟩
  | .hbm, ⟨66, _⟩ => ⟨S1x1, .i32⟩
  | .hbm, ⟨67, _⟩ => ⟨S163840x1, .i32⟩
  | .hbm, ⟨68, _⟩ => ⟨S163840x1, .i1⟩
  | .hbm, ⟨69, _⟩ => ⟨S163840x1, .i1⟩
  | .hbm, ⟨70, _⟩ => ⟨S_, .i1⟩
  | .hbm, ⟨71, _⟩ => ⟨S163840, .i1⟩
  | .hbm, ⟨72, _⟩ => ⟨S163840x128, .f32⟩
  | .hbm, ⟨73, _⟩ => ⟨S163840x128, .i1⟩
  | .hbm, ⟨74, _⟩ => ⟨S_, .f32⟩
  | .hbm, ⟨75, _⟩ => ⟨S163840x128, .f32⟩
  | .hbm, ⟨76, _⟩ => ⟨S163840x128, .f32⟩
  | .hbm, ⟨77, _⟩ => ⟨S_, .i32⟩
  | .hbm, ⟨78, _⟩ => ⟨S163840, .i32⟩
  | .hbm, ⟨79, _⟩ => ⟨S163840, .i1⟩
  | .hbm, ⟨80, _⟩ => ⟨S_, .i32⟩
  | .hbm, ⟨81, _⟩ => ⟨S163840, .i32⟩
  | .hbm, ⟨82, _⟩ => ⟨S163840, .i32⟩
  | .hbm, ⟨83, _⟩ => ⟨S163840, .i32⟩
  | .hbm, ⟨84, _⟩ => ⟨S163840x1, .i32⟩
  | .hbm, ⟨85, _⟩ => ⟨S1, .i32⟩
  | .hbm, ⟨86, _⟩ => ⟨S_, .i32⟩
  | .hbm, ⟨87, _⟩ => ⟨S163840x1, .i32⟩
  | .hbm, ⟨88, _⟩ => ⟨S163840x1, .i1⟩
  | .hbm, ⟨89, _⟩ => ⟨S1x1, .i32⟩
  | .hbm, ⟨90, _⟩ => ⟨S163840x1, .i32⟩
  | .hbm, ⟨91, _⟩ => ⟨S163840x1, .i1⟩
  | .hbm, ⟨92, _⟩ => ⟨S163840x1, .i1⟩
  | .hbm, ⟨93, _⟩ => ⟨S_, .i1⟩
  | .hbm, ⟨94, _⟩ => ⟨S163840, .i1⟩
  | .hbm, ⟨95, _⟩ => ⟨S163840x128, .f32⟩
  | .hbm, ⟨96, _⟩ => ⟨S163840x128, .i1⟩
  | .hbm, ⟨97, _⟩ => ⟨S_, .f32⟩
  | .hbm, ⟨98, _⟩ => ⟨S163840x128, .f32⟩
  | .hbm, ⟨99, _⟩ => ⟨S163840x128, .f32⟩
  | .hbm, ⟨100, _⟩ => ⟨S2500x6, .f32⟩
  | .hbm, ⟨101, _⟩ => ⟨S_, .i32⟩
  | .hbm, ⟨102, _⟩ => ⟨S_, .f32⟩
  | .hbm, ⟨103, _⟩ => ⟨S2560x6, .f32⟩
  | .hbm, ⟨104, _⟩ => ⟨S2560x64x6, .f32⟩
  | .hbm, ⟨105, _⟩ => ⟨S163840x6, .f32⟩
  | .hbm, ⟨106, _⟩ => ⟨S2500x128, .f32⟩
  | .hbm, ⟨107, _⟩ => ⟨S_, .i32⟩
  | .hbm, ⟨108, _⟩ => ⟨S_, .f32⟩
  | .hbm, ⟨109, _⟩ => ⟨S2560x128, .f32⟩
  | .hbm, ⟨110, _⟩ => ⟨S2560x64x128, .f32⟩
  | .hbm, ⟨111, _⟩ => ⟨S163840x128, .f32⟩
  | .hbm, ⟨112, _⟩ => ⟨S2500x128, .f32⟩
  | .hbm, ⟨113, _⟩ => ⟨S_, .i32⟩
  | .hbm, ⟨114, _⟩ => ⟨S_, .f32⟩
  | .hbm, ⟨115, _⟩ => ⟨S2560x128, .f32⟩
  | .hbm, ⟨116, _⟩ => ⟨S2500x128, .f32⟩
  | .hbm, ⟨117, _⟩ => ⟨S_, .i32⟩
  | .hbm, ⟨118, _⟩ => ⟨S_, .f32⟩
  | .hbm, ⟨119, _⟩ => ⟨S2560x128, .f32⟩
  | .hbm, ⟨120, _⟩ => ⟨S2560x128, .f32⟩
  | .hbm, ⟨121, _⟩ => ⟨S2500x128, .f32⟩
  | .hbm, ⟨122, _⟩ => ⟨S7500x128, .f32⟩
  | .hbm, ⟨123, _⟩ => ⟨S10000x128, .f32⟩
  | .local _ .vmem, ⟨0, _⟩ => ⟨S6x10000, .f32⟩
  | .local _ .vmem, ⟨1, _⟩ => ⟨S6x2500, .f32⟩
  | .local _ .vmem, ⟨2, _⟩ => ⟨S6x128, .f32⟩
  | .local _ .vmem, ⟨3, _⟩ => ⟨S6x128, .f32⟩
  | .local _ .vmem, ⟨4, _⟩ => ⟨S10000x6, .f32⟩
  | .local _ .vmem, ⟨5, _⟩ => ⟨S64x128, .i32⟩
  | .local _ .vmem, ⟨6, _⟩ => ⟨S64x128, .i32⟩
  | .local _ .vmem, ⟨7, _⟩ => ⟨S64x128, .f32⟩
  | .local _ .vmem, ⟨8, _⟩ => ⟨S64x128, .f32⟩
  | .local _ .vmem, ⟨9, _⟩ => ⟨S1000x128, .f32⟩
  | .local _ .vmem, ⟨10, _⟩ => ⟨S1000x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x64, .f32⟩
  | .local _ .vmem, ⟨15, _⟩ => ⟨S64x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S2048x6, .f32⟩
  | .local _ .vmem, ⟨30, _⟩ => ⟨S2048x6, .f32⟩
  | .local _ .vmem, ⟨31, _⟩ => ⟨S2048x6, .f32⟩
  | .local _ .vmem, ⟨32, _⟩ => ⟨S2048x6, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x1, .f32⟩
  | .local _ .vmem, ⟨40, _⟩ => ⟨S2048x1, .f32⟩
  | .local _ .vmem, ⟨41, _⟩ => ⟨S32x128, .f32⟩
  | .local _ .vmem, ⟨42, _⟩ => ⟨S32x128, .f32⟩
  | .local _ .vmem, ⟨43, _⟩ => ⟨S32x128, .f32⟩
  | .local _ .vmem, ⟨44, _⟩ => ⟨S32x128, .f32⟩
  | .local _ .vmem, ⟨45, _⟩ => ⟨S6x64, .f32⟩
  | .local _ .vmem, ⟨46, _⟩ => ⟨S1x64, .f32⟩
  | .local _ .vmem, ⟨47, _⟩ => ⟨S64x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S32x128, .f32⟩
  | .local _ .vmem, ⟨52, _⟩ => ⟨S32x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_call0_v0 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v12 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v13 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v14 : Ref sig .tc := ⟨.hbm, 99, rfl⟩
abbrev main_v15 : Ref sig .tc := ⟨.hbm, 100, rfl⟩
abbrev main_c : Ref sig .tc := ⟨.hbm, 101, rfl⟩
abbrev main_call4_v0 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_c_0 : Ref sig .tc := ⟨.hbm, 107, rfl⟩
abbrev main_call5_v0 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_c_1 : Ref sig .tc := ⟨.hbm, 113, rfl⟩
abbrev main_call6_v0 : Ref sig .tc := ⟨.hbm, 114, rfl⟩
abbrev main_v24 : Ref sig .tc := ⟨.hbm, 115, rfl⟩
abbrev main_v25 : Ref sig .tc := ⟨.hbm, 116, rfl⟩
abbrev main_c_2 : Ref sig .tc := ⟨.hbm, 117, rfl⟩
abbrev main_call7_v0 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg9_1 : Ref sig .tc := ⟨.vmem, 20, rfl⟩
abbrev cc2_stg10_0 : Ref sig .tc := ⟨.vmem, 21, rfl⟩
abbrev cc2_stg10_1 : Ref sig .tc := ⟨.vmem, 22, rfl⟩
abbrev cc2_stg11_0 : Ref sig .tc := ⟨.vmem, 23, rfl⟩
abbrev cc2_stg11_1 : Ref sig .tc := ⟨.vmem, 24, rfl⟩
abbrev cc2_stg12_0 : Ref sig .tc := ⟨.vmem, 25, rfl⟩
abbrev cc2_stg12_1 : Ref sig .tc := ⟨.vmem, 26, rfl⟩
abbrev cc2_stg13_0 : Ref sig .tc := ⟨.vmem, 27, rfl⟩
abbrev cc2_stg13_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc3_stg7_0 : Ref sig .tc := ⟨.vmem, 43, rfl⟩
abbrev cc3_stg7_1 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg10_0 : Ref sig .tc := ⟨.vmem, 47, rfl⟩
abbrev cc3_stg11_0 : Ref sig .tc := ⟨.vmem, 48, rfl⟩
abbrev cc3_stg12_0 : Ref sig .tc := ⟨.vmem, 49, rfl⟩
abbrev cc3_stg13_0 : Ref sig .tc := ⟨.vmem, 50, rfl⟩
abbrev cc3_stg14_0 : Ref sig .tc := ⟨.vmem, 51, rfl⟩
abbrev cc3_stg14_1 : Ref sig .tc := ⟨.vmem, 52, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem9_1 : DmaSem sig := 20
abbrev cc2_sem10_0 : DmaSem sig := 21
abbrev cc2_sem10_1 : DmaSem sig := 22
abbrev cc2_sem11_0 : DmaSem sig := 23
abbrev cc2_sem11_1 : DmaSem sig := 24
abbrev cc2_sem12_0 : DmaSem sig := 25
abbrev cc2_sem12_1 : DmaSem sig := 26
abbrev cc2_sem13_0 : DmaSem sig := 27
abbrev cc2_sem13_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem5_1 : DmaSem sig := 40
abbrev cc3_sem6_0 : DmaSem sig := 41
abbrev cc3_sem6_1 : DmaSem sig := 42
abbrev cc3_sem7_0 : DmaSem sig := 43
abbrev cc3_sem7_1 : DmaSem sig := 44
abbrev cc3_sem8_0 : DmaSem sig := 45
abbrev cc3_sem9_0 : DmaSem sig := 46
abbrev cc3_sem10_0 : DmaSem sig := 47
abbrev cc3_sem11_0 : DmaSem sig := 48
abbrev cc3_sem12_0 : DmaSem sig := 49
abbrev cc3_sem13_0 : DmaSem sig := 50
abbrev cc3_sem14_0 : DmaSem sig := 51
abbrev cc3_sem14_1 : DmaSem sig := 52

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c2499_i32 : BitVec 32 := 2499#32
  let v21 : BitVec 32 := Scalar.addi c1_i32 c2499_i32
  let c1_i32_6 : BitVec 32 := 1#32
  ⟨c1_i32, v21, c1_i32_6⟩
abbrev stage0_0 : Fin 1 → Memref sig .tc .vmem S6x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![20], ![false]⟩

@[reducible] def k1_t1_loop : Scf.Loop 32 :=
  let c0_i32_21 : BitVec 32 := 0#32
  let c64_i32 : BitVec 32 := 64#32
  let v61 : BitVec 32 := Scalar.addi c0_i32_21 c64_i32
  let c1_i32 : BitVec 32 := 1#32
  ⟨c0_i32_21, v61, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x6 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x6 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S32x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S32x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S6x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S32x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]
-- ==== KernelIdeal.lean ====
variable {F : FTy → Type} [FloatOps F] [Named F]
def κ : String → Option EReal := fun
  | "big" => some ⊤
  | _ => none
-- ==== ReferenceIdeal.lean ====
abbrev S10000x128 : Shape := ⟨2, ![10000, 128]⟩
abbrev S10000x6 : Shape := ⟨2, ![10000, 6]⟩
abbrev S10000 : Shape := ⟨1, ![10000]⟩
abbrev S128x128 : Shape := ⟨2, ![128, 128]⟩
abbrev S6x64 : Shape := ⟨2, ![6, 64]⟩
abbrev S64 : Shape := ⟨1, ![64]⟩
abbrev S64x128 : Shape := ⟨2, ![64, 128]⟩
abbrev S128 : Shape := ⟨1, ![128]⟩
abbrev S_ : Shape := ⟨0, ![]⟩
abbrev S2500 : Shape := ⟨1, ![2500]⟩
abbrev S1 : Shape := ⟨1, ![1]⟩
abbrev S1x6 : Shape := ⟨2, ![1, 6]⟩
abbrev S6 : Shape := ⟨1, ![6]⟩
abbrev S2500x1 : Shape := ⟨2, ![2500, 1]⟩
abbrev S2500x6 : Shape := ⟨2, ![2500, 6]⟩
abbrev S2500x1x6 : Shape := ⟨3, ![2500, 1, 6]⟩
abbrev S1x10000x6 : Shape := ⟨3, ![1, 10000, 6]⟩
abbrev S2500x10000x6 : Shape := ⟨3, ![2500, 10000, 6]⟩
abbrev S2500x10000 : Shape := ⟨2, ![2500, 10000]⟩
abbrev S2500x64 : Shape := ⟨2, ![2500, 64]⟩
abbrev S160000 : Shape := ⟨1, ![160000]⟩
abbrev S170000 : Shape := ⟨1, ![170000]⟩
abbrev S170000x1 : Shape := ⟨2, ![170000, 1]⟩
abbrev S170000x6 : Shape := ⟨2, ![170000, 6]⟩
abbrev S170000x64 : Shape := ⟨2, ![170000, 64]⟩
abbrev S1x64 : Shape := ⟨2, ![1, 64]⟩
abbrev S170000x128 : Shape := ⟨2, ![170000, 128]⟩
abbrev S1x128 : Shape := ⟨2, ![1, 128]⟩
abbrev S1x170000 : Shape := ⟨2, ![1, 170000]⟩
abbrev S10000x1 : Shape := ⟨2, ![10000, 1]⟩
abbrev S10000x170000 : Shape := ⟨2, ![10000, 170000]⟩
abbrev S10000x170000x1 : Shape := ⟨3, ![10000, 170000, 1]⟩
abbrev S1x170000x128 : Shape := ⟨3, ![1, 170000, 128]⟩
abbrev S10000x170000x128 : Shape := ⟨3, ![10000, 170000, 128]⟩

abbrev nBuf : Space → Nat
  | .hbm => 256
  | .vmem => 0
  | .smem => 0
  | _ => 0

abbrev hbmTy0_0 (i : Nat) : BufTy := match i % 128 with
  | 0 => ⟨S10000x128, .f32⟩
  | 1 => ⟨S10000x6, .f32⟩
  | 2 => ⟨S10000, .i32⟩
  | 3 => ⟨S128x128, .f32⟩
  | 4 => ⟨S128x128, .f32⟩
  | 5 => ⟨S128x128, .f32⟩
  | 6 => ⟨S6x64, .f32⟩
  | 7 => ⟨S64, .f32⟩
  | 8 => ⟨S64x128, .f32⟩
  | 9 => ⟨S128, .f32⟩
  | 10 => ⟨S128x128, .f32⟩
  | 11 => ⟨S128, .f32⟩
  | 12 => ⟨S_, .i32⟩
  | 13 => ⟨S2500, .i32⟩
  | 14 => ⟨S_, .f32⟩
  | 15 => ⟨S10000, .f32⟩
  | 16 => ⟨S_, .i32⟩
  | 17 => ⟨S_, .i32⟩
  | 18 => ⟨S10000x6, .f32⟩
  | 19 => ⟨S_, .i32⟩
  | 20 => ⟨S_, .i32⟩
  | 21 => ⟨S2500, .i32⟩
  | 22 => ⟨S10000, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x6, .f32⟩
  | 51 => ⟨S6, .f32⟩
  | 52 => ⟨S1x6, .f32⟩
  | 53 => ⟨S10000x6, .f32⟩
  | 54 => ⟨S10000x6, .f32⟩
  | 55 => ⟨S10000x6, .f32⟩
  | 56 => ⟨S_, .f32⟩
  | 57 => ⟨S10000, .f32⟩
  | 58 => ⟨S10000, .f32⟩
  | 59 => ⟨S1, .f32⟩
  | 60 => ⟨S1, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1, .i32⟩
  | 69 => ⟨S2500, .i32⟩
  | 70 => ⟨S_, .i32⟩
  | 71 => ⟨S_, .i32⟩
  | 72 => ⟨S_, .i32⟩
  | 73 => ⟨S2500, .i32⟩
  | 74 => ⟨S2500, .i1⟩
  | 75 => ⟨S_, .i32⟩
  | 76 => ⟨S2500, .i32⟩
  | 77 => ⟨S2500, .i32⟩
  | 78 => ⟨S2500, .i32⟩
  | 79 => ⟨S2500x1, .i32⟩
  | 80 => ⟨S2500x6, .f32⟩
  | 81 => ⟨S2500x1x6, .f32⟩
  | 82 => ⟨S1x10000x6, .f32⟩
  | 83 => ⟨S2500x10000x6, .f32⟩
  | 84 => ⟨S2500x10000x6, .f32⟩
  | 85 => ⟨S2500x10000x6, .f32⟩
  | 86 => ⟨S2500x10000x6, .f32⟩
  | 87 => ⟨S_, .f32⟩
  | 88 => ⟨S2500x10000, .f32⟩
  | 89 => ⟨S_, .f32⟩
  | 90 => ⟨S2500x10000, .f32⟩
  | 91 => ⟨S2500x10000, .i1⟩
  | 92 => ⟨S_, .f32⟩
  | 93 => ⟨S_, .f32⟩
  | 94 => ⟨S2500x10000, .f32⟩
  | 95 => ⟨S2500x10000, .f32⟩
  | 96 => ⟨S2500x10000, .f32⟩
  | 97 => ⟨S2500x64, .f32⟩
  | 98 => ⟨S2500x64, .i32⟩
  | 99 => ⟨S_, .f32⟩
  | 100 => ⟨S2500x64, .f32⟩
  | 101 => ⟨S2500x64, .i1⟩
  | 102 => ⟨S2500, .i32⟩
  | 103 => ⟨S2500x64, .i32⟩
  | 104 => ⟨S160000, .i32⟩
  | 105 => ⟨S160000, .i32⟩
  | 106 => ⟨S160000, .i1⟩
  | 107 => ⟨S_, .i32⟩
  | 108 => ⟨S_, .i32⟩
  | 109 => ⟨S160000, .i32⟩
  | 110 => ⟨S160000, .i32⟩
  | 111 => ⟨S160000, .i1⟩
  | 112 => ⟨S160000, .i1⟩
  | 113 => ⟨S10000, .i32⟩
  | 114 => ⟨S170000, .i32⟩
  | 115 => ⟨S170000, .i32⟩
  | 116 => ⟨S_, .i1⟩
  | 117 => ⟨S10000, .i1⟩
  | 118 => ⟨S170000, .i1⟩
  | 119 => ⟨S10000x128, .f32⟩
  | 120 => ⟨S10000x128, .f32⟩
  | 121 => ⟨S10000x128, .f32⟩
  | 122 => ⟨S_, .i32⟩
  | 123 => ⟨S170000, .i32⟩
  | 124 => ⟨S170000, .i1⟩
  | 125 => ⟨S_, .i32⟩
  | 126 => ⟨S170000, .i32⟩
  | 127 => ⟨S170000, .i32⟩
  | _ => ⟨S10000x128, .f32⟩

abbrev hbmTy0_1 (i : Nat) : BufTy := match i % 128 with
  | 0 => ⟨S170000, .i32⟩
  | 1 => ⟨S170000x1, .i32⟩
  | 2 => ⟨S170000x6, .f32⟩
  | 3 => ⟨S_, .i32⟩
  | 4 => ⟨S170000, .i32⟩
  | 5 => ⟨S170000, .i1⟩
  | 6 => ⟨S_, .i32⟩
  | 7 => ⟨S170000, .i32⟩
  | 8 => ⟨S170000, .i32⟩
  | 9 => ⟨S170000, .i32⟩
  | 10 => ⟨S170000x1, .i32⟩
  | 11 => ⟨S170000x6, .f32⟩
  | 12 => ⟨S170000x6, .f32⟩
  | 13 => ⟨S170000x64, .f32⟩
  | 14 => ⟨S1x64, .f32⟩
  | 15 => ⟨S170000x64, .f32⟩
  | 16 => ⟨S170000x64, .f32⟩
  | 17 => ⟨S_, .f32⟩
  | 18 => ⟨S170000x64, .f32⟩
  | 19 => ⟨S170000x64, .f32⟩
  | 20 => ⟨S170000x128, .f32⟩
  | 21 => ⟨S1x128, .f32⟩
  | 22 => ⟨S170000x128, .f32⟩
  | 23 => ⟨S170000x128, .f32⟩
  | 24 => ⟨S_, .f32⟩
  | 25 => ⟨S170000x128, .f32⟩
  | 26 => ⟨S170000x128, .f32⟩
  | 27 => ⟨S_, .i32⟩
  | 28 => ⟨S170000, .i32⟩
  | 29 => ⟨S170000, .i1⟩
  | 30 => ⟨S_, .i32⟩
  | 31 => ⟨S170000, .i32⟩
  | 32 => ⟨S170000, .i32⟩
  | 33 => ⟨S170000, .i32⟩
  | 34 => ⟨S170000x1, .i32⟩
  | 35 => ⟨S170000x128, .f32⟩
  | 36 => ⟨S_, .i32⟩
  | 37 => ⟨S170000, .i32⟩
  | 38 => ⟨S170000, .i1⟩
  | 39 => ⟨S_, .i32⟩
  | 40 => ⟨S170000, .i32⟩
  | 41 => ⟨S170000, .i32⟩
  | 42 => ⟨S170000, .i32⟩
  | 43 => ⟨S170000x1, .i32⟩
  | 44 => ⟨S170000x128, .f32⟩
  | 45 => ⟨S170000x128, .f32⟩
  | 46 => ⟨S170000x128, .f32⟩
  | 47 => ⟨S170000x128, .f32⟩
  | 48 => ⟨S1x128, .f32⟩
  | 49 => ⟨S170000x128, .f32⟩
  | 50 => ⟨S170000x128, .f32⟩
  | 51 => ⟨S170000x1, .i1⟩
  | 52 => ⟨S_, .f32⟩
  | 53 => ⟨S_, .f32⟩
  | 54 => ⟨S170000x128, .i1⟩
  | 55 => ⟨S170000x128, .f32⟩
  | 56 => ⟨S170000x128, .f32⟩
  | 57 => ⟨S1x170000, .i32⟩
  | 58 => ⟨S10000, .i32⟩
  | 59 => ⟨S10000x1, .i32⟩
  | 60 => ⟨S10000x170000, .i32⟩
  | 61 => ⟨S10000x170000, .i32⟩
  | 62 => ⟨S10000x170000, .i1⟩
  | 63 => ⟨S10000x170000x1, .i1⟩
  | 64 => ⟨S1x170000x128, .f32⟩
  | 65 => ⟨S_, .f32⟩
  | 66 => ⟨S_, .f32⟩
  | 67 => ⟨S10000x170000x128, .i1⟩
  | 68 => ⟨S10000x170000x128, .f32⟩
  | 69 => ⟨S10000x170000x128, .f32⟩
  | 70 => ⟨S10000x170000x128, .f32⟩
  | 71 => ⟨S_, .f32⟩
  | 72 => ⟨S10000x128, .f32⟩
  | 73 => ⟨S10000x128, .f32⟩
  | 74 => ⟨S_, .f32⟩
  | 75 => ⟨S10000x128, .f32⟩
  | 76 => ⟨S10000x128, .i1⟩
  | 77 => ⟨S_, .f32⟩
  | 78 => ⟨S_, .f32⟩
  | 79 => ⟨S10000x128, .f32⟩
  | 80 => ⟨S10000x128, .f32⟩
  | 81 => ⟨S_, .i32⟩
  | 82 => ⟨S170000, .i32⟩
  | 83 => ⟨S170000, .i1⟩
  | 84 => ⟨S_, .i32⟩
  | 85 => ⟨S170000, .i32⟩
  | 86 => ⟨S170000, .i32⟩
  | 87 => ⟨S170000, .i32⟩
  | 88 => ⟨S170000x1, .i32⟩
  | 89 => ⟨S170000x128, .f32⟩
  | 90 => ⟨S170000x128, .f32⟩
  | 91 => ⟨S170000x128, .f32⟩
  | 92 => ⟨S170000x1, .i1⟩
  | 93 => ⟨S170000x1, .f32⟩
  | 94 => ⟨S170000x128, .f32⟩
  | 95 => ⟨S170000x128, .f32⟩
  | 96 => ⟨S_, .f32⟩
  | 97 => ⟨S10000x128, .f32⟩
  | 98 => ⟨S170000x1, .i32⟩
  | 99 => ⟨S10000x128, .f32⟩
  | 100 => ⟨S_, .i32⟩
  | 101 => ⟨S170000, .i32⟩
  | 102 => ⟨S170000, .i1⟩
  | 103 => ⟨S_, .i32⟩
  | 104 => ⟨S170000, .i32⟩
  | 105 => ⟨S170000, .i32⟩
  | 106 => ⟨S170000, .i32⟩
  | 107 => ⟨S170000x1, .i32⟩
  | 108 => ⟨S170000x128, .f32⟩
  | 109 => ⟨S_, .f32⟩
  | 110 => ⟨S170000x128, .f32⟩
  | 111 => ⟨S170000x128, .f32⟩
  | 112 => ⟨S170000x128, .f32⟩
  | 113 => ⟨S_, .i32⟩
  | 114 => ⟨S170000, .i32⟩
  | 115 => ⟨S170000, .i1⟩
  | 116 => ⟨S_, .i32⟩
  | 117 => ⟨S170000, .i32⟩
  | 118 => ⟨S170000, .i32⟩
  | 119 => ⟨S170000, .i32⟩
  | 120 => ⟨S170000x1, .i32⟩
  | 121 => ⟨S170000x128, .f32⟩
  | 122 => ⟨S170000x128, .f32⟩
  | 123 => ⟨S170000x128, .f32⟩
  | 124 => ⟨S_, .f32⟩
  | 125 => ⟨S10000x128, .f32⟩
  | 126 => ⟨S170000x1, .i32⟩
  | 127 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_c_0 : Ref sig .tc := ⟨.hbm, 16, rfl⟩
abbrev main_c_1 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev main_v2_3 : Ref sig .tc := ⟨.hbm, 21, rfl⟩
abbrev main_v2_4 : Ref sig .tc := ⟨.hbm, 22, rfl⟩
abbrev main_while0c_c_36 : Ref sig .tc := ⟨.hbm, 23, rfl⟩
abbrev main_while0c_v138 : Ref sig .tc := ⟨.hbm, 24, rfl⟩
abbrev main_while0b_c_36 : Ref sig .tc := ⟨.hbm, 25, rfl⟩
abbrev main_while0b_v138 : Ref sig .tc := ⟨.hbm, 26, rfl⟩
abbrev main_while0b_c_37 : Ref sig .tc := ⟨.hbm, 27, rfl⟩
abbrev main_while0b_v139 : Ref sig .tc := ⟨.hbm, 28, rfl⟩
abbrev main_while0b_c_38 : Ref sig .tc := ⟨.hbm, 29, rfl⟩
abbrev main_while0b_v140 : Ref sig .tc := ⟨.hbm, 30, rfl⟩
abbrev main_while0b_v141 : Ref sig .tc := ⟨.hbm, 31, rfl⟩
abbrev main_while0b_c_39 : Ref sig .tc := ⟨.hbm, 32, rfl⟩
abbrev main_while0b_v142 : Ref sig .tc := ⟨.hbm, 33, rfl⟩
abbrev main_while0b_v143 : Ref sig .tc := ⟨.hbm, 34, rfl⟩
abbrev main_while0b_v144 : Ref sig .tc := ⟨.hbm, 35, rfl⟩
abbrev main_while0b_v145 : Ref sig .tc := ⟨.hbm, 36, rfl⟩
abbrev main_while0b_c_40 : Ref sig .tc := ⟨.hbm, 37, rfl⟩
abbrev main_while0b_v146 : Ref sig .tc := ⟨.hbm, 38, rfl⟩
abbrev main_while0b_c_41 : Ref sig .tc := ⟨.hbm, 39, rfl⟩
abbrev main_while0b_v147 : Ref sig .tc := ⟨.hbm, 40, rfl⟩
abbrev main_while0b_v148 : Ref sig .tc := ⟨.hbm, 41, rfl⟩
abbrev main_while0b_c_42 : Ref sig .tc := ⟨.hbm, 42, rfl⟩
abbrev main_while0b_c_43 : Ref sig .tc := ⟨.hbm, 43, rfl⟩
abbrev main_while0b_v149 : Ref sig .tc := ⟨.hbm, 44, rfl⟩
abbrev main_while0b_c_44 : Ref sig .tc := ⟨.hbm, 45, rfl⟩
abbrev main_while0b_c_45 : Ref sig .tc := ⟨.hbm, 46, rfl⟩
abbrev main_while0b_v150 : Ref sig .tc := ⟨.hbm, 47, rfl⟩
abbrev main_while0b_c_46 : Ref sig .tc := ⟨.hbm, 48, rfl⟩
abbrev main_while0b_v151 : Ref sig .tc := ⟨.hbm, 49, rfl⟩
abbrev main_while0b_v152 : Ref sig .tc := ⟨.hbm, 50, rfl⟩
abbrev main_while0b_v153 : Ref sig .tc := ⟨.hbm, 51, rfl⟩
abbrev main_while0b_v154 : Ref sig .tc := ⟨.hbm, 52, rfl⟩
abbrev main_while0b_v155 : Ref sig .tc := ⟨.hbm, 53, rfl⟩
abbrev main_while0b_v156 : Ref sig .tc := ⟨.hbm, 54, rfl⟩
abbrev main_while0b_v157 : Ref sig .tc := ⟨.hbm, 55, rfl⟩
abbrev main_while0b_cst_47 : Ref sig .tc := ⟨.hbm, 56, rfl⟩
abbrev main_while0b_v158 : Ref sig .tc := ⟨.hbm, 57, rfl⟩
abbrev main_while0b_v159 : Ref sig .tc := ⟨.hbm, 58, rfl⟩
abbrev main_while0b_values_48 : Ref sig .tc := ⟨.hbm, 59, rfl⟩
abbrev main_while0b_indices_49 : Ref sig .tc := ⟨.hbm, 60, rfl⟩
abbrev main_while0b_v160 : Ref sig .tc := ⟨.hbm, 61, rfl⟩
abbrev main_while0b_c_50 : Ref sig .tc := ⟨.hbm, 62, rfl⟩
abbrev main_while0b_v161 : Ref sig .tc := ⟨.hbm, 63, rfl⟩
abbrev main_while0b_c_51 : Ref sig .tc := ⟨.hbm, 64, rfl⟩
abbrev main_while0b_v162 : Ref sig .tc := ⟨.hbm, 65, rfl⟩
abbrev main_while0b_v163 : Ref sig .tc := ⟨.hbm, 66, rfl⟩
abbrev main_while0b_v164 : Ref sig .tc := ⟨.hbm, 67, rfl⟩
abbrev main_while0b_v165 : Ref sig .tc := ⟨.hbm, 68, rfl⟩
abbrev main_while0b_v166 : Ref sig .tc := ⟨.hbm, 69, rfl⟩
abbrev main_while0b_c_52 : Ref sig .tc := ⟨.hbm, 70, rfl⟩
abbrev main_while0b_v167 : Ref sig .tc := ⟨.hbm, 71, rfl⟩
abbrev main_c_2 : Ref sig .tc := ⟨.hbm, 72, rfl⟩
abbrev main_v3 : Ref sig .tc := ⟨.hbm, 73, rfl⟩
abbrev main_v4 : Ref sig .tc := ⟨.hbm, 74, rfl⟩
abbrev main_c_3 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_cst_4 : Ref sig .tc := ⟨.hbm, 87, rfl⟩
abbrev main_v16 : Ref sig .tc := ⟨.hbm, 88, rfl⟩
abbrev main_cst_5 : Ref sig .tc := ⟨.hbm, 89, rfl⟩
abbrev main_v17 : Ref sig .tc := ⟨.hbm, 90, rfl⟩
abbrev main_v18 : Ref sig .tc := ⟨.hbm, 91, rfl⟩
abbrev main_cst_6 : Ref sig .tc := ⟨.hbm, 92, rfl⟩
abbrev main_call0_v0 : Ref sig .tc := ⟨.hbm, 93, rfl⟩
abbrev main_call0_v1 : Ref sig .tc := ⟨.hbm, 94, rfl⟩
abbrev main_v19 : Ref sig .tc := ⟨.hbm, 95, rfl⟩
abbrev main_v20 : Ref sig .tc := ⟨.hbm, 96, rfl⟩
abbrev main_values : Ref sig .tc := ⟨.hbm, 97, rfl⟩
abbrev main_indices : Ref sig .tc := ⟨.hbm, 98, rfl⟩
abbrev main_cst_7 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_c_8 : Ref sig .tc := ⟨.hbm, 107, rfl⟩
abbrev main_call1_v0 : Ref sig .tc := ⟨.hbm, 108, rfl⟩
abbrev main_call1_v1 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_c_9 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_c_10 : Ref sig .tc := ⟨.hbm, 122, rfl⟩
abbrev main_v39 : Ref sig .tc := ⟨.hbm, 123, rfl⟩
abbrev main_v40 : Ref sig .tc := ⟨.hbm, 124, rfl⟩
abbrev main_c_11 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_c_12 : Ref sig .tc := ⟨.hbm, 131, rfl⟩
abbrev main_v46 : Ref sig .tc := ⟨.hbm, 132, rfl⟩
abbrev main_v47 : Ref sig .tc := ⟨.hbm, 133, rfl⟩
abbrev main_c_13 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_call2_cst : Ref sig .tc := ⟨.hbm, 145, rfl⟩
abbrev main_call2_v0 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_call3_cst : Ref sig .tc := ⟨.hbm, 152, rfl⟩
abbrev main_call3_v0 : Ref sig .tc := ⟨.hbm, 153, rfl⟩
abbrev main_v63 : Ref sig .tc := ⟨.hbm, 154, rfl⟩
abbrev main_c_14 : Ref sig .tc := ⟨.hbm, 155, rfl⟩
abbrev main_v64 : Ref sig .tc := ⟨.hbm, 156, rfl⟩
abbrev main_v65 : Ref sig .tc := ⟨.hbm, 157, rfl⟩
abbrev main_c_15 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_c_16 : Ref sig .tc := ⟨.hbm, 164, rfl⟩
abbrev main_v71 : Ref sig .tc := ⟨.hbm, 165, rfl⟩
abbrev main_v72 : Ref sig .tc := ⟨.hbm, 166, rfl⟩
abbrev main_c_17 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_cst_18 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_19 : Ref sig .tc := ⟨.hbm, 193, rfl⟩
abbrev main_call5_v0 : Ref sig .tc := ⟨.hbm, 194, rfl⟩
abbrev main_call5_v1 : Ref sig .tc := ⟨.hbm, 195, rfl⟩
abbrev main_call5_v2 : Ref sig .tc := ⟨.hbm, 196, rfl⟩
abbrev main_call5_v3 : Ref sig .tc := ⟨.hbm, 197, rfl⟩
abbrev main_v94 : Ref sig .tc := ⟨.hbm, 198, rfl⟩
abbrev main_cst_20 : Ref sig .tc := ⟨.hbm, 199, rfl⟩
abbrev main_v95 : Ref sig .tc := ⟨.hbm, 200, rfl⟩
abbrev main_v96 : Ref sig .tc := ⟨.hbm, 201, rfl⟩
abbrev main_cst_21 : Ref sig .tc := ⟨.hbm, 202, rfl⟩
abbrev main_v97 : Ref sig .tc := ⟨.hbm, 203, rfl⟩
abbrev main_v98 : Ref sig .tc := ⟨.hbm, 204, rfl⟩
abbrev main_cst_22 : Ref sig .tc := ⟨.hbm, 205, rfl⟩
abbrev main_call6_v0 : Ref sig .tc := ⟨.hbm, 206, rfl⟩
abbrev main_call6_v1 : Ref sig .tc := ⟨.hbm, 207, rfl⟩
abbrev main_v99 : Ref sig .tc := ⟨.hbm, 208, rfl⟩
abbrev main_c_23 : Ref sig .tc := ⟨.hbm, 209, rfl⟩
abbrev main_v100 : Ref sig .tc := ⟨.hbm, 210, rfl⟩
abbrev main_v101 : Ref sig .tc := ⟨.hbm, 211, rfl⟩
abbrev main_c_24 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_cst_25 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_c_26 : Ref sig .tc := ⟨.hbm, 228, rfl⟩
abbrev main_v116 : Ref sig .tc := ⟨.hbm, 229, rfl⟩
abbrev main_v117 : Ref sig .tc := ⟨.hbm, 230, rfl⟩
abbrev main_c_27 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_cst_28 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_c_29 : Ref sig .tc := ⟨.hbm, 241, rfl⟩
abbrev main_v126 : Ref sig .tc := ⟨.hbm, 242, rfl⟩
abbrev main_v127 : Ref sig .tc := ⟨.hbm, 243, rfl⟩
abbrev main_c_30 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_cst_31 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩

abbrev nD : Nat := 1
abbrev τ : Topo := Topo.v7x

variable {F : FTy → Type} [FloatOps F]

abbrev main_while0_count : Scf.Loop 32 := ⟨0#32, 2499#32, 1#32⟩
-- ==== Proof.ReferenceRun.lean ====
/-
  The reference's run: the contents after each stretch of its program, its result, its arguments unchanged.
-/
module

public import proofs.«01_k».proof.Proof.Gen.ReferenceIdeal.Run

@[expose] public section

set_option maxRecDepth 16384

noncomputable section

namespace Cert.ReferenceIdeal.Value

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ) (ρ : Dev nD → PrngReg) (c : Dev nD)

/-- The contents when the loop ends. -/
def X0 : Valuation τ sig (Elt F) := after condOps (atTrip condOps bodyI (entryContents preI m) 2499 c)

/-- The contents after stretch 1. -/
def X1 : Valuation τ sig (Elt F) := after hostOps0_1 (X0 m c)

theorem X1_of (r : Ref sig .tc) (h : r ∉ hostOps0_1_W) : X1 m c (Proc.devRef .tc r) = X0 m c (Proc.devRef .tc r) :=
  after_of_writes_sub _ _ hostOps0_1_writes h

/-- The contents after stretch 2. -/
def X2 : Valuation τ sig (Elt F) := after hostOps0_2 (X1 m c)

theorem X2_of (r : Ref sig .tc) (h : r ∉ hostOps0_2_W) : X2 m c (Proc.devRef .tc r) = X1 m c (Proc.devRef .tc r) :=
  after_of_writes_sub _ _ hostOps0_2_writes h

/-- The contents after stretch 3. -/
def X3 : Valuation τ sig (Elt F) := after hostOps0_3 (X2 m c)

theorem X3_of (r : Ref sig .tc) (h : r ∉ hostOps0_3_W) : X3 m c (Proc.devRef .tc r) = X2 m c (Proc.devRef .tc r) :=
  after_of_writes_sub _ _ hostOps0_3_writes h

/-- The contents after stretch 4. -/
def X4 : Valuation τ sig (Elt F) := after hostOps0_4 (X3 m c)

theorem X4_of (r : Ref sig .tc) (h : r ∉ hostOps0_4_W) : X4 m c (Proc.devRef .tc r) = X3 m c (Proc.devRef .tc r) :=
  after_of_writes_sub _ _ hostOps0_4_writes h

/-- The contents after stretch 5. -/
def X5 : Valuation τ sig (Elt F) := after hostOps0_5 (X4 m c)

theorem X5_of (r : Ref sig .tc) (h : r ∉ hostOps0_5_W) : X5 m c (Proc.devRef .tc r) = X4 m c (Proc.devRef .tc r) :=
  after_of_writes_sub _ _ hostOps0_5_writes h

/-- The contents after stretch 6. -/
def X6 : Valuation τ sig (Elt F) := after hostOps0_6 (X5 m c)

theorem X6_of (r : Ref sig .tc) (h : r ∉ hostOps0_6_W) : X6 m c (Proc.devRef .tc r) = X5 m c (Proc.devRef .tc r) :=
  after_of_writes_sub _ _ hostOps0_6_writes h

/-- The contents after stretch 7. -/
def X7 : Valuation τ sig (Elt F) := after hostOps0_7 (X6 m c)

theorem X7_of (r : Ref sig .tc) (h : r ∉ hostOps0_7_W) : X7 m c (Proc.devRef .tc r) = X6 m c (Proc.devRef .tc r) :=
  after_of_writes_sub _ _ hostOps0_7_writes h

/-- The contents after stretch 8. -/
def X8 : Valuation τ sig (Elt F) := after hostOps0_8 (X7 m c)

theorem X8_of (r : Ref sig .tc) (h : r ∉ hostOps0_8_W) : X8 m c (Proc.devRef .tc r) = X7 m c (Proc.devRef .tc r) :=
  after_of_writes_sub _ _ hostOps0_8_writes h

/-- The contents after stretch 9. -/
def X9 : Valuation τ sig (Elt F) := after hostOps0_9 (X8 m c)

theorem X9_of (r : Ref sig .tc) (h : r ∉ hostOps0_9_W) : X9 m c (Proc.devRef .tc r) = X8 m c (Proc.devRef .tc r) :=
  after_of_writes_sub _ _ hostOps0_9_writes h

/-- The contents after stretch 10. -/
def X10 : Valuation τ sig (Elt F) := after hostOps0_10 (X9 m c)

theorem X10_of (r : Ref sig .tc) (h : r ∉ hostOps0_10_W) : X10 m c (Proc.devRef .tc r) = X9 m c (Proc.devRef .tc r) :=
  after_of_writes_sub _ _ hostOps0_10_writes h

/-- The contents after stretch 11. -/
def X11 : Valuation τ sig (Elt F) := after hostOps0_11 (X10 m c)

theorem X11_of (r : Ref sig .tc) (h : r ∉ hostOps0_11_W) : X11 m c (Proc.devRef .tc r) = X10 m c (Proc.devRef .tc r) :=
  after_of_writes_sub _ _ hostOps0_11_writes h

/-- The contents after stretch 12. -/
def X12 : Valuation τ sig (Elt F) := after hostOps0_12 (X11 m c)

theorem X12_of (r : Ref sig .tc) (h : r ∉ hostOps0_12_W) : X12 m c (Proc.devRef .tc r) = X11 m c (Proc.devRef .tc r) :=
  after_of_writes_sub _ _ hostOps0_12_writes h

/-- The contents after stretch 13. -/
def X13 : Valuation τ sig (Elt F) := after hostOps0_13 (X12 m c)

theorem X13_of (r : Ref sig .tc) (h : r ∉ hostOps0_13_W) : X13 m c (Proc.devRef .tc r) = X12 m c (Proc.devRef .tc r) :=
  after_of_writes_sub _ _ hostOps0_13_writes h

/-- The contents after stretch 14. -/
def X14 : Valuation τ sig (Elt F) := after hostOps0_14 (X13 m c)

theorem X14_of (r : Ref sig .tc) (h : r ∉ hostOps0_14_W) : X14 m c (Proc.devRef .tc r) = X13 m c (Proc.devRef .tc r) :=
  after_of_writes_sub _ _ hostOps0_14_writes h

/-- The contents after stretch 15. -/
def X15 : Valuation τ sig (Elt F) := after hostOps0_15 (X14 m c)

theorem X15_of (r : Ref sig .tc) (h : r ∉ hostOps0_15_W) : X15 m c (Proc.devRef .tc r) = X14 m c (Proc.devRef .tc r) :=
  after_of_writes_sub _ _ hostOps0_15_writes h

/-- The contents at the end are those after the last stretch. -/
theorem final_eq : finalContents condOps preI bodyI postI 2499 m c = X15 m c := rfl

/-- A buffer neither the prefix nor the loop writes holds its launch contents when the loop ends. -/
theorem X0_of (r : Ref sig .tc) (h0 : r ∉ hostOps0_W) (h1 : r ∉ condOps_W) (h2 : r ∉ while0Ops0_W) :
    X0 m c (Proc.devRef .tc r) = m ((c.tc : Thread nD τ).loc r) := by
  have h : ∀ k, atTrip condOps bodyI (entryContents preI m) k c (Proc.devRef .tc r) = m ((c.tc : Thread nD τ).loc r) := by
    intro k
    induction k with
    | zero => exact after_of_writes_sub _ _ hostOps0_writes h0
    | succ k ih =>
      rw [atTrip_succ]
      simp only [afterL_cons, afterL_nil]
      rw [after_of_writes_sub _ _ while0Ops0_writes h2, after_of_writes_sub _ _ condOps_writes h1, ih]
  unfold X0
  rw [after_of_writes_sub _ _ condOps_writes h1, h]

/-- A buffer no operation writes holds its launch contents at the end. -/
theorem X15_of_launch (r : Ref sig .tc) (h0 : r ∉ hostOps0_W) (h1 : r ∉ condOps_W) (h2 : r ∉ while0Ops0_W)
    (g1 : r ∉ hostOps0_1_W)
    (g2 : r ∉ hostOps0_2_W)
    (g3 : r ∉ hostOps0_3_W)
    (g4 : r ∉ hostOps0_4_W)
    (g5 : r ∉ hostOps0_5_W)
    (g6 : r ∉ hostOps0_6_W)
    (g7 : r ∉ hostOps0_7_W)
    (g8 : r ∉ hostOps0_8_W)
    (g9 : r ∉ hostOps0_9_W)
    (g10 : r ∉ hostOps0_10_W)
    (g11 : r ∉ hostOps0_11_W)
    (g12 : r ∉ hostOps0_12_W)
    (g13 : r ∉ hostOps0_13_W)
    (g14 : r ∉ hostOps0_14_W)
    (g15 : r ∉ hostOps0_15_W) :
    X15 m c (Proc.devRef .tc r) = m ((c.tc : Thread nD τ).loc r) := by
  rw [X15_of m c r g15, X14_of m c r g14, X13_of m c r g13, X12_of m c r g12, X11_of m c r g11, X10_of m c r g10, X9_of m c r g9, X8_of m c r g8, X7_of m c r g7, X6_of m c r g6, X5_of m c r g5, X4_of m c r g4, X3_of m c r g3, X2_of m c r g2, X1_of m c r g1, X0_of m c r h0 h1 h2]

theorem X15_main_arg0 : X15 m c (Proc.devRef .tc main_arg0) = m ((c.tc : Thread nD τ).loc main_arg0) :=
  X15_of_launch m c main_arg0 (by decide) (by decide) (by decide) (by decide) (by decide) (by decide) (by decide) (by decide) (by decide) (by decide) (by decide) (by decide) (by decide) (by decide) (by decide) (by decide) (by decide) (by decide)

theorem X15_main_arg1 : X15 m c (Proc.devRef .tc main_arg1) = m ((c.tc : Thread nD τ).loc main_arg1) :=
  X15_of_launch m c main_arg1 (by decide) (by decide) (by decide) (by decide) (by decide) (by decide) (by decide) (by decide) (by decide) (by decide) (by decide) (by decide) (by decide) (by decide) (by decide) (by decide) (by decide) (by decide)

theorem X15_main_arg2 : X15 m c (Proc.devRef .tc main_arg2) = m ((c.tc : Thread nD τ).loc main_arg2) :=
  X15_of_launch m c main_arg2 (by decide) (by decide) (by decide) (by decide) (by decide) (by decide) (by decide) (by decide) (by decide) (by decide) (by decide) (by decide) (by decide) (by decide) (by decide) (by decide) (by decide) (by decide)

theorem X15_main_arg3 : X15 m c (Proc.devRef .tc main_arg3) = m ((c.tc : Thread nD τ).loc main_arg3) :=
  X15_of_launch m c main_arg3 (by decide) (by decide) (by decide) (by decide) (by decide) (by decide) (by decide) (by decide) (by decide) (by decide) (by decide) (by decide) (by decide) (by decide) (by decide) (by decide) (by decide) (by decide)

theorem X15_main_arg4 : X15 m c (Proc.devRef .tc main_arg4) = m ((c.tc : Thread nD τ).loc main_arg4) :=
  X15_of_launch m c main_arg4 (by decide) (by decide) (by decide) (by decide) (by decide) (by decide) (by decide) (by decide) (by decide) (by decide) (by decide) (by decide) (by decide) (by decide) (by decide) (by decide) (by decide) (by decide)

theorem X15_main_arg5 : X15 m c (Proc.devRef .tc main_arg5) = m ((c.tc : Thread nD τ).loc main_arg5) :=
  X15_of_launch m c main_arg5 (by decide) (by decide) (by decide) (by decide) (by decide) (by decide) (by decide) (by decide) (by decide) (by decide) (by decide) (by decide) (by decide) (by decide) (by decide) (by decide) (by decide) (by decide)

theorem X15_main_arg6 : X15 m c (Proc.devRef .tc main_arg6) = m ((c.tc : Thread nD τ).loc main_arg6) :=
  X15_of_launch m c main_arg6 (by decide) (by decide) (by decide) (by decide) (by decide) (by decide) (by decide) (by decide) (by decide) (by decide) (by decide) (by decide) (by decide) (by decide) (by decide) (by decide) (by decide) (by decide)

theorem X15_main_arg7 : X15 m c (Proc.devRef .tc main_arg7) = m ((c.tc : Thread nD τ).loc main_arg7) :=
  X15_of_launch m c main_arg7 (by decide) (by decide) (by decide) (by decide) (by decide) (by decide) (by decide) (by decide) (by decide) (by decide) (by decide) (by decide) (by decide) (by decide) (by decide) (by decide) (by decide) (by decide)

theorem X15_main_arg8 : X15 m c (Proc.devRef .tc main_arg8) = m ((c.tc : Thread nD τ).loc main_arg8) :=
  X15_of_launch m c main_arg8 (by decide) (by decide) (by decide) (by decide) (by decide) (by decide) (by decide) (by decide) (by decide) (by decide) (by decide) (by decide) (by decide) (by decide) (by decide) (by decide) (by decide) (by decide)

theorem X15_main_arg9 : X15 m c (Proc.devRef .tc main_arg9) = m ((c.tc : Thread nD τ).loc main_arg9) :=
  X15_of_launch m c main_arg9 (by decide) (by decide) (by decide) (by decide) (by decide) (by decide) (by decide) (by decide) (by decide) (by decide) (by decide) (by decide) (by decide) (by decide) (by decide) (by decide) (by decide) (by decide)

theorem X15_main_arg10 : X15 m c (Proc.devRef .tc main_arg10) = m ((c.tc : Thread nD τ).loc main_arg10) :=
  X15_of_launch m c main_arg10 (by decide) (by decide) (by decide) (by decide) (by decide) (by decide) (by decide) (by decide) (by decide) (by decide) (by decide) (by decide) (by decide) (by decide) (by decide) (by decide) (by decide) (by decide)

theorem X15_main_arg11 : X15 m c (Proc.devRef .tc main_arg11) = m ((c.tc : Thread nD τ).loc main_arg11) :=
  X15_of_launch m c main_arg11 (by decide) (by decide) (by decide) (by decide) (by decide) (by decide) (by decide) (by decide) (by decide) (by decide) (by decide) (by decide) (by decide) (by decide) (by decide) (by decide) (by decide) (by decide)

/-- Every execution ends with the result at the contents after the last stretch, the arguments as launched and every
    counter at zero. -/
theorem run : θ_run (defs (F := F)) (onTc (τ := τ) (main (F := F))) ⟨m, fun _ => 0, ρ⟩ (fun r => (∀ c : Dev nD,
      r.2.mem ((c.tc : Thread nD τ).loc main_v137) = X15 m c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run (defs (F := F)) _ _).mono (fun r h => ⟨fun c =>
    ⟨h c main_v137 (by decide),
     (h c main_arg0 (by decide)).trans (X15_main_arg0 m c),
     (h c main_arg1 (by decide)).trans (X15_main_arg1 m c),
     (h c main_arg2 (by decide)).trans (X15_main_arg2 m c),
     (h c main_arg3 (by decide)).trans (X15_main_arg3 m c),
     (h c main_arg4 (by decide)).trans (X15_main_arg4 m c),
     (h c main_arg5 (by decide)).trans (X15_main_arg5 m c),
     (h c main_arg6 (by decide)).trans (X15_main_arg6 m c),
     (h c main_arg7 (by decide)).trans (X15_main_arg7 m c),
     (h c main_arg8 (by decide)).trans (X15_main_arg8 m c),
     (h c main_arg9 (by decide)).trans (X15_main_arg9 m c),
     (h c main_arg10 (by decide)).trans (X15_main_arg10 m c),
     (h c main_arg11 (by decide)).trans (X15_main_arg11 m c)⟩,
    sem_eq_zero_of_no_sems (by decide) r.2⟩) (run_fold m ρ)

end Cert.ReferenceIdeal.Value

end
-- ==== Proof.KernelRun.lean ====
/-
  The kernel's run with its first result: after every execution the result array holds the fold of the host stretches and
  the four calls, and the argument arrays are as launched.
-/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the last boundary's contents, the arguments as launched and every
    counter at zero. -/
theorem run : θ_run defs (onTc (τ := τ) (main (F := F))) ⟨m, fun _ => 0, ρ⟩ (fun r => (∀ c : Dev nD,
      r.2.mem ((c.tc : Thread nD τ).loc main_v30) = W21 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => ⟨(fun c =>
      ⟨h c _ (mem_uc main_v30 (by decide)), (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c)⟩), funext fun g => hz g (.inr (no_unscoped g.2))⟩)

end Cert.KernelIdeal.Whole

end
-- ==== Proof.Order.lean ====
/-
  Positions ranked by an extended-real key: the first place where a family is least or greatest, the list of all
  positions by ascending key with equal keys by ascending position, what the stable sort gives of it, and the
  repeated removal of the least entry, which walks that list.
-/
module

public import Idealize.ShloMosaic.Lib.SortFacts
public import Mathlib.Data.EReal.Operations

@[expose] public section

noncomputable section

namespace Cert.Rank

open Idealize.ShloMosaic

variable {n : Nat}

/-- `j` is the first position at which `g` is least. -/
def FirstMin (g : Fin n → EReal) (j : Fin n) : Prop := (∀ k, g j ≤ g k) ∧ ∀ k, k < j → g j < g k

/-- `j` is the first position at which `g` is greatest. -/
def FirstMax (g : Fin n → EReal) (j : Fin n) : Prop := (∀ k, g k ≤ g j) ∧ ∀ k, k < j → g k < g j

/-- A family has one first greatest position. -/
theorem FirstMax.unique {g : Fin n → EReal} {i j : Fin n} (hi : FirstMax g i) (hj : FirstMax g j) : i = j := by
  rcases lt_trichotomy i j with h | h | h
  · exact absurd (hi.1 j) (not_le.mpr (hj.2 i h))
  · exact h
  · exact absurd (hj.1 i) (not_le.mpr (hi.2 j h))

/-- A family has one first least position. -/
theorem FirstMin.unique {g : Fin n → EReal} {i j : Fin n} (hi : FirstMin g i) (hj : FirstMin g j) : i = j := by
  rcases lt_trichotomy i j with h | h | h
  · exact absurd (hj.2 i h) (not_lt.mpr (hi.1 j))
  · exact h
  · exact absurd (hi.2 j h) (not_lt.mpr (hj.1 i))

/-- Position `a` comes before position `b`: a smaller key, or an equal key and a smaller position. -/
def Before (f : Fin n → EReal) (a b : Fin n) : Prop := f a < f b ∨ (f a = f b ∧ a < b)

theorem Before.trans {f : Fin n → EReal} {a b c : Fin n} (h : Before f a b) (h' : Before f b c) : Before f a c := by
  rcases h with h | ⟨h, l⟩ <;> rcases h' with h' | ⟨h', l'⟩
  · exact .inl (h.trans h')
  · exact .inl (h' ▸ h)
  · exact .inl (h ▸ h')
  · exact .inr ⟨h.trans h', l.trans l'⟩

/-- `π` lists every position once, in the order `Before`. -/
structure Ranked (f : Fin n → EReal) (π : Fin n → Fin n) : Prop where
  surj : Function.Surjective π
  inj : Function.Injective π
  sorted : ∀ i j, i < j → Before f (π i) (π j)

theorem pairwise_insertBefore {f : Fin n → EReal} {B : Fin n → Fin n → Bool} (hB : ∀ a b, B a b = true ↔ f a < f b)
    (a : Fin n) (l : List (Fin n)) (hl : l.Pairwise (Before f)) (ha : ∀ b ∈ l, a < b) :
    (insertBefore B a l).Pairwise (Before f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore B a l).mem_iff.mp hc) with rfl | hc'
      · exact .inl ((hB _ _).1 h)
      · exact hl.1 c hc'
    · rename_i h
      have hab : Before f a b := by
        have h1 : ¬ f b < f a := fun h2 => h ((hB _ _).2 h2)
        rcases lt_or_eq_of_le (not_lt.mp h1) with h2 | h2
        · exact .inl h2
        · exact .inr ⟨h2, ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_stableSort {f : Fin n → EReal} {B : Fin n → Fin n → Bool} (hB : ∀ a b, B a b = true ↔ f a < f b)
    (l : List (Fin n)) (hl : l.Pairwise (· < ·)) : (stableSort B l).Pairwise (Before f) := by
  induction l with
  | nil => exact List.Pairwise.nil
  | cons a l ih =>
    rw [List.pairwise_cons] at hl
    unfold stableSort
    exact pairwise_insertBefore hB a _ (ih hl.2) fun b hb => hl.1 b ((perm_stableSort B l).mem_iff.mp hb)

/-- The stable sort by a key ranks the positions: by the key, and among equal keys by position. -/
theorem ranked_sortedFrom {f : Fin n → EReal} {B : Fin n → Fin n → Bool} (hB : ∀ a b, B a b = true ↔ f a < f b) :
    Ranked f (sortedFrom B) where
  surj := sortedFrom_surjective B
  inj := sortedFrom_injective B
  sorted i j hij := by
    have hp : ∀ a b : Fin (sortPositions n B).length, a < b →
        Before f ((sortPositions n B).get a) ((sortPositions n B).get b) :=
      List.pairwise_iff_get.mp (pairwise_stableSort hB (List.finRange n) (List.pairwise_lt_finRange n))
    unfold sortedFrom
    exact hp _ _ (by simp only [Fin.lt_def, Fin.val_cast]; exact hij)

/-- In a ranking no position is before an earlier one. -/
theorem Ranked.le {f : Fin n → EReal} {π : Fin n → Fin n} (h : Ranked f π) {i j : Fin n} (hij : i ≤ j) : f (π i) ≤ f (π j) := by
  rcases lt_or_eq_of_le hij with h1 | h1
  · rcases h.sorted i j h1 with h2 | h2
    · exact h2.le
    · exact h2.1.le
  · rw [h1]

/-- The head of a ranking by the negated family is the family's first greatest position. -/
theorem Ranked.firstMax {g : Fin n → EReal} {π : Fin n → Fin n} (h : Ranked (fun j => - g j) π) (z : Fin n) (hz : z.val = 0) :
    FirstMax g (π z) := by
  have key : ∀ k, k ≠ π z → Before (fun j => - g j) (π z) k := fun k hk => by
    obtain ⟨i, rfl⟩ := h.surj k
    refine h.sorted z i ?_
    rcases lt_or_eq_of_le (show z ≤ i from Fin.le_def.2 (by omega)) with h1 | h1
    · exact h1
    · exact absurd (by rw [h1]) hk
  constructor
  · intro k
    by_cases hk : k = π z
    · rw [hk]
    · rcases key k hk with h1 | h1
      · exact (EReal.neg_lt_neg_iff.1 h1).le
      · exact (neg_inj.1 h1.1).ge
  · intro k hk
    rcases key k hk.ne with h1 | h1
    · exact EReal.neg_lt_neg_iff.1 h1
    · exact absurd h1.2 (not_lt.mpr hk.le)

/-- Every nonempty family has a first greatest position. -/
theorem exists_firstMax (g : Fin n → EReal) (hn : 0 < n) : ∃ j, FirstMax g j := by
  classical
  exact ⟨_, (ranked_sortedFrom (f := fun j => - g j) (B := fun a b => decide (- g a < - g b)) (fun a b => by simp)).firstMax
    ⟨0, hn⟩ rfl⟩

/-- The family with the first `t` positions of the list `π` raised to `⊤`. -/
def cut (f : Fin n → EReal) (π : Fin n → Fin n) (t : Nat) (j : Fin n) : EReal := by
  classical exact if ∃ s : Fin n, s.val < t ∧ π s = j then ⊤ else f j

theorem cut_zero (f : Fin n → EReal) (π : Fin n → Fin n) : cut f π 0 = f := by
  funext j; unfold cut; rw [if_neg]; rintro ⟨s, hs, -⟩; omega

theorem Ranked.cut_self {f : Fin n → EReal} {π : Fin n → Fin n} (h : Ranked f π) (t s : Fin n) (hts : t.val ≤ s.val) :
    cut f π t.val (π s) = f (π s) := by
  unfold cut; rw [if_neg]; rintro ⟨s', hs, e⟩; have := h.inj e; subst this; omega

/-- While the next key is below `⊤`, its position is the first least of what is left. -/
theorem Ranked.firstMin_cut {f : Fin n → EReal} {π : Fin n → Fin n} (h : Ranked f π) (t : Fin n) (ht : f (π t) < ⊤) :
    FirstMin (cut f π t.val) (π t) := by
  have e := h.cut_self t t le_rfl
  have key : ∀ k, (cut f π t.val k = ⊤) ∨ (∃ s : Fin n, t.val ≤ s.val ∧ π s = k) := fun k => by
    obtain ⟨s, rfl⟩ := h.surj k
    by_cases hs : s.val < t.val
    · left; unfold cut; rw [if_pos ⟨s, hs, rfl⟩]
    · exact .inr ⟨s, by omega, rfl⟩
  constructor
  · intro k
    rw [e]
    rcases key k with hk | ⟨s, hs, rfl⟩
    · rw [hk]; exact le_top
    · rw [h.cut_self t s hs]; exact h.le (Fin.le_def.2 hs)
  · intro k hk
    rw [e]
    rcases key k with hk' | ⟨s, hs, rfl⟩
    · rw [hk']; exact ht
    · rw [h.cut_self t s hs]
      rcases lt_or_eq_of_le (Fin.le_def.2 hs) with h1 | h1
      · rcases h.sorted t s h1 with h2 | h2
        · exact h2
        · exact absurd h2.2 (not_lt.mpr hk.le)
      · exact absurd hk (by rw [h1]; exact lt_irrefl _)

/-- Once the next key is `⊤`, everything left is `⊤`. -/
theorem Ranked.cut_top {f : Fin n → EReal} {π : Fin n → Fin n} (h : Ranked f π) (t : Fin n) (ht : f (π t) = ⊤) (j : Fin n) :
    cut f π t.val j = ⊤ := by
  obtain ⟨s, rfl⟩ := h.surj j
  by_cases hs : s.val < t.val
  · unfold cut; rw [if_pos ⟨s, hs, rfl⟩]
  · rw [h.cut_self t s (by omega)]
    exact top_le_iff.1 (ht ▸ h.le (Fin.le_def.2 (by omega)))

/-- The position a search of the least remaining key finds: the next of the list, or the first position when nothing is left. -/
def pick (f : Fin n → EReal) (π : Fin n → Fin n) (t : Fin n) : Fin n := by
  classical exact if f (π t) < ⊤ then π t else ⟨0, t.pos⟩

theorem pick_pos {f : Fin n → EReal} {π : Fin n → Fin n} {t : Fin n} (h : f (π t) < ⊤) : pick f π t = π t := by
  unfold pick; rw [if_pos h]

theorem pick_neg {f : Fin n → EReal} {π : Fin n → Fin n} {t : Fin n} (h : ¬ f (π t) < ⊤) : (pick f π t).val = 0 := by
  unfold pick; rw [if_neg h]

/-- That position is the first least of what is left. -/
theorem Ranked.firstMin_pick {f : Fin n → EReal} {π : Fin n → Fin n} (h : Ranked f π) (t : Fin n) :
    FirstMin (cut f π t.val) (pick f π t) := by
  by_cases ht : f (π t) < ⊤
  · rw [pick_pos ht]; exact h.firstMin_cut t ht
  · have e := h.cut_top t (by simpa using ht)
    have e' := pick_neg ht
    exact ⟨fun k => by rw [e, e], fun k hk => absurd hk (by rw [Fin.lt_def]; omega)⟩

/-- The least remaining key is the next key of the list. -/
theorem Ranked.cut_pick {f : Fin n → EReal} {π : Fin n → Fin n} (h : Ranked f π) (t : Fin n) :
    cut f π t.val (pick f π t) = f (π t) := by
  by_cases ht : f (π t) < ⊤
  · rw [pick_pos ht]; exact h.cut_self t t le_rfl
  · rw [h.cut_top t (by simpa using ht)]; symm; simpa using ht

/-- Raising the found position to `⊤` moves the list on by one. -/
theorem Ranked.cut_succ {f : Fin n → EReal} {π : Fin n → Fin n} (h : Ranked f π) (t : Fin n) (j : Fin n) :
    (if j = pick f π t then ⊤ else cut f π t.val j) = cut f π (t.val + 1) j := by
  by_cases ht : f (π t) < ⊤
  · rw [pick_pos ht]
    by_cases hj : j = π t
    · rw [if_pos hj]; unfold cut; rw [if_pos ⟨t, by omega, hj.symm⟩]
    · rw [if_neg hj]; unfold cut
      refine if_congr ⟨?_, ?_⟩ rfl rfl
      · rintro ⟨s, hs, e⟩; exact ⟨s, by omega, e⟩
      · rintro ⟨s, hs, e⟩
        refine ⟨s, ?_, e⟩
        rcases Nat.lt_succ_iff_lt_or_eq.1 hs with h1 | h1
        · exact h1
        · exact absurd (by rw [← e, Fin.ext h1]) hj
  · have e := h.cut_top t (by simpa using ht)
    have : cut f π (t.val + 1) j = ⊤ := by
      have hj := e j
      unfold cut at hj ⊢
      by_cases hx : ∃ s : Fin n, s.val < t.val + 1 ∧ π s = j
      · rw [if_pos hx]
      · rw [if_neg hx]
        rw [if_neg] at hj
        · exact hj
        · rintro ⟨s, hs, e⟩; exact hx ⟨s, by omega, e⟩
    rw [this, e j]; simp

/-- Two rankings of one family are the same list. -/
theorem Ranked.unique {f : Fin n → EReal} {π π' : Fin n → Fin n} (h : Ranked f π) (h' : Ranked f π') : π = π' := by
  have asym : ∀ a b, Before f a b → ¬ Before f b a := by
    rintro a b (h1 | h1) (h2 | h2)
    · exact absurd h1 (not_lt.2 h2.le)
    · exact absurd h1 (by rw [h2.1]; exact lt_irrefl _)
    · exact absurd h2 (by rw [h1.1]; exact lt_irrefl _)
    · exact absurd h1.2 (not_lt.2 h2.2.le)
  have key : ∀ m : Nat, ∀ i : Fin n, i.val = m → π i = π' i := by
    intro m
    induction m using Nat.strong_induction_on with
    | _ m ih =>
      intro i hi
      by_contra hne
      obtain ⟨a, ha⟩ := h'.surj (π i)
      obtain ⟨b, hb⟩ := h.surj (π' i)
      have h1 : i < a := by
        rcases lt_trichotomy a i with h1 | h1 | h1
        · have := ih a.val (by omega) a rfl
          rw [ha] at this
          exact absurd (h.inj this) h1.ne
        · exact absurd (by rw [← ha, h1]) hne
        · exact h1
      have h2 : i < b := by
        rcases lt_trichotomy b i with h1 | h1 | h1
        · have := ih b.val (by omega) b rfl
          rw [hb] at this
          exact absurd (h'.inj this).symm h1.ne
        · exact absurd (by rw [← hb, h1]) hne
        · exact h1
      have h3 := h'.sorted i a h1
      have h4 := h.sorted i b h2
      rw [ha] at h3
      rw [hb] at h4
      exact asym _ _ h3 h4
  funext i; exact key i.val i rfl

end Cert.Rank

end
-- ==== Proof.Words.lean ====
/-
  Words that hold positions: selects on compared words, and the minimum and maximum folds that find a first position.
-/
module

public import proofs.«01_k».proof.Proof.Order
public import Idealize.ShloMosaic.Lib.StableHlo.Predicate
public import Idealize.ShloMosaic.Lib.Pointwise
public import Idealize.ShloMosaic.Lib.Exec

@[expose] public section

noncomputable section

namespace Cert.Rank

open Idealize.ShloMosaic

/-- The word of a small number. -/
abbrev word (k : Nat) : BitVec 32 := BitVec.ofNat 32 k

theorem toInt_word {k : Nat} (hk : k < 2 ^ 31) : (word k).toInt = k := StableHlo.Predicate.toInt_ofNat_small k hk

theorem word_inj {a b : Nat} (ha : a < 2 ^ 31) (hb : b < 2 ^ 31) : word a = word b ↔ a = b := by
  constructor
  · intro h
    have := congrArg BitVec.toInt h
    rw [toInt_word ha, toInt_word hb] at this
    exact_mod_cast this
  · rintro rfl; rfl

/-- A select on an equality of words. -/
theorem select_eq {α : Type} (a b : BitVec 32) (x y : α) : Scalar.select (IntOp.cmpi .eq a b) x y = if a = b then x else y := by
  by_cases h : a = b
  · subst h; simp [Scalar.select, IntOp.cmpi]
  · have h' : (a == b) = false := by simpa using h
    simp [Scalar.select, IntOp.cmpi, h, h']

/-- A select on an equality of the words of two small numbers. -/
theorem select_word {α : Type} {a b : Nat} (ha : a < 2 ^ 31) (hb : b < 2 ^ 31) (x y : α) :
    Scalar.select (IntOp.cmpi .eq (word a) (word b)) x y = if a = b then x else y := by
  rw [select_eq]; exact if_congr (word_inj ha hb) rfl rfl

/-- The sum of a family masked to one position is the family's entry there. -/
theorem sum_mask {n : Nat} (hn : n < 2 ^ 31) (g : Fin n → EReal) (l : Fin n) :
    ∑ x : Fin n, Scalar.select (IntOp.cmpi .eq (word x.val) (word l.val)) (g x) 0 = g l := by
  rw [Finset.sum_congr rfl fun x _ => select_word (by have := x.isLt; omega) (by have := l.isLt; omega) (g x) 0]
  rw [Finset.sum_eq_single l]
  · rw [if_pos rfl]
  · intro b _ hb; rw [if_neg fun e => hb (Fin.ext e)]
  · intro h; exact absurd (Finset.mem_univ _) h

/-- The fold of minima is the entry at the first least position. -/
theorem fold_min {n : Nat} {g : Fin n → EReal} {j : Fin n} (h : FirstMin g j) : Finset.univ.fold min ⊤ g = g j :=
  le_antisymm ((Finset.fold_min_le _).2 (.inr ⟨j, Finset.mem_univ _, le_rfl⟩)) ((Finset.le_fold_min _).2 ⟨le_top, fun k _ => h.1 k⟩)

/-- The fold of maxima over a list of the positions is the entry at the first greatest position. -/
theorem fold_max {ι : Type} [Fintype ι] {n : Nat} {g : Fin n → EReal} {j : Fin n} (h : FirstMax g j) (e : ι → Fin n)
    (he : Function.Surjective e) : Finset.univ.fold max ⊥ (fun x => g (e x)) = g j := by
  obtain ⟨x, hx⟩ := he j
  exact le_antisymm ((Finset.fold_max_le _).2 ⟨bot_le, fun k _ => h.1 (e k)⟩)
    ((Finset.le_fold_max _).2 (.inr ⟨x, Finset.mem_univ _, by rw [hx]⟩))

theorem minsi_toInt (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The signed value of a fold of signed minima. -/
theorem fold_minsi_toInt {ι : Type} [Fintype ι] [Std.Commutative (IntOp.minsi (w := 32))] [Std.Associative (IntOp.minsi (w := 32))]
    (b : BitVec 32) (f : ι → BitVec 32) :
    (Finset.univ.fold IntOp.minsi b f).toInt = Finset.univ.fold min b.toInt (fun x => (f x).toInt) :=
  (Finset.fold_hom (op := IntOp.minsi) (op' := min) (m := BitVec.toInt) (fun x y => minsi_toInt x y)).symm

/-- The least marked position, found as the least of the words of the marked positions. -/
theorem fold_minsi {ι : Type} [Fintype ι] [Std.Commutative (IntOp.minsi (w := 32))] [Std.Associative (IntOp.minsi (w := 32))]
    (e : ι → Fin 10000) (he : Function.Surjective e) (P : Fin 10000 → Prop) [DecidablePred P] (j : Fin 10000) (hj : P j)
    (hf : ∀ k, k < j → ¬ P k) :
    Finset.univ.fold IntOp.minsi 2147483647#32 (fun x => if P (e x) then BitVec.ofNat 32 (e x).val else 10000#32) = word j.val := by
  have hjl := j.isLt
  refine BitVec.eq_of_toInt_eq ?_
  rw [fold_minsi_toInt, toInt_word (k := j.val) (by omega)]
  obtain ⟨x, hx⟩ := he j
  refine le_antisymm ((Finset.fold_min_le _).2 (.inr ⟨x, Finset.mem_univ _, ?_⟩)) ((Finset.le_fold_min _).2 ⟨?_, fun k _ => ?_⟩)
  · rw [hx, if_pos hj]; exact (toInt_word (k := j.val) (by omega)).le
  · have : (2147483647#32 : BitVec 32).toInt = 2147483647 := by decide
    rw [this]; omega
  · have hk := (e k).isLt
    by_cases hp : P (e k)
    · rw [if_pos hp]
      have h1 : ¬ e k < j := fun h => hf _ h hp
      have h2 := toInt_word (k := (e k).val) (by omega)
      rw [Fin.lt_def] at h1
      have h3 : (BitVec.ofNat 32 (e k).val).toInt = ((e k).val : Int) := h2
      rw [h3]; omega
    · rw [if_neg hp]
      have : (10000#32 : BitVec 32).toInt = 10000 := by decide
      rw [this]; omega

/-- The word of a counted loop's induction variable that starts at `b` and goes up by one. -/
theorem iv_eq (b t : Nat) : Scf.iv (word b) (1#32) t = word (b + t) := by
  unfold Scf.iv word
  rw [show (1#32 : BitVec 32) = BitVec.ofNat 32 1 from rfl, ← BitVec.ofNat_mul, ← BitVec.ofNat_add, Nat.mul_one]

/-- An invariant of a counted loop's fold. -/
theorem fold_inv {σ : Type} {n : Nat} (g : Fin n → σ → σ) (I : Nat → σ → Prop) (s0 : σ) (h0 : I 0 s0)
    (hs : ∀ (k : Fin n) (s : σ), I k.val s → I (k.val + 1) (g k s)) : I n (Scf.fold g s0) := by
  rw [Scf.fold_eq]
  induction n with
  | zero => simpa using h0
  | succ n ih =>
    rw [List.finRange_succ_last, List.foldl_append, List.foldl_map]
    exact hs (Fin.last n) _ (ih (fun k => g k.castSucc) fun k s h => hs k.castSucc s h)

end Cert.Rank

namespace Cert.Const

open Idealize.ShloMosaic

theorem bot_bits : Ideal.ofBits FTy.f32 4286578688#32 = (⊥ : EReal) := by simp [Ideal.ofBits, Ideal.ieee]
theorem top_bits : Ideal.ofBits FTy.f32 2139095040#32 = (⊤ : EReal) := by simp [Ideal.ofBits, Ideal.ieee]

/-- The radius bound, squared. -/
theorem r2_bits : Ideal.ofBits FTy.f32 0x40C80000#32 = ((25 / 4 : ℝ) : EReal) := by
  simp [Ideal.ofBits, Ideal.ieee, -EReal.coe_mul]; norm_num

/-- The bound that tells a real distance from a removed one is a positive real. -/
theorem half_big_bits : ∃ r : ℝ, 7 < r ∧ Ideal.ofBits FTy.f32 0x70C9F2CA#32 = (r : EReal) := by
  refine ⟨_, ?_, by simp [Ideal.ofBits, Ideal.ieee, -EReal.coe_mul]; rfl⟩
  norm_num

/-- The value put in place of a masked score is real. -/
theorem neg_big_bits : ∃ r : ℝ, Ideal.ofBits FTy.f32 0xF149F2CA#32 = (r : EReal) := by
  exact ⟨_, by simp [Ideal.ofBits, Ideal.ieee, -EReal.coe_mul]; rfl⟩

/-- The floor of the denominators is a positive real. -/
theorem eps_bits : ∃ r : ℝ, 0 < r ∧ r ≤ 1 ∧ Ideal.ofBits FTy.f32 0x24E69595#32 = (r : EReal) := by
  refine ⟨_, ?_, ?_, by simp [Ideal.ofBits, Ideal.ieee, -EReal.coe_mul]; rfl⟩
  · norm_num
  · norm_num

theorem half_bits : Ideal.ofBits FTy.f32 0x3F000000#32 = ((1 / 2 : ℝ) : EReal) := by
  simp [Ideal.ofBits, Ideal.ieee, -EReal.coe_mul]; norm_num

end Cert.Const

end
-- ==== Proof.Takes.lean ====
/-
  The host's takes from a table at a list of nodes, and its repetitions of padded rows, element by element.
-/
module

public import proofs.«01_k».proof.Proof.Gen.KernelIdeal.Frame
public import proofs.«01_k».proof.Proof.Words
public import Idealize.ShloMosaic.Lib.ReduceAll
public import Idealize.ShloMosaic.Lib.StableHlo.ReadAt
public import Idealize.ShloMosaic.Lib.Routing.OpsPair
public import Idealize.ShloMosaic.Lib.Routing.OpsSet

@[expose] public section

set_option maxRecDepth 16384

noncomputable section

namespace Cert.KernelIdeal.Takes

open Cert.KernelIdeal Cert.KernelIdeal.Gen Cert.Rank
open Idealize.ShloMosaic Idealize.ShloMosaic.TcCoe Idealize.ShloMosaic.Pointwise Idealize.ShloMosaic.Tactic

variable (V : Valuation τ sig (Elt Ideal))

/-- The column of a list of nodes, negative numbers counted from the end. -/
def column (w : IVec S163840 32) : IVec S163840x1 32 :=
  broadcastInDim S163840x1 ![0] bcast_S163840_S163840x1_0 (select (cmpi .slt w (broadcastInDim S163840 ![] bcast_S_S163840 (constantI S_ 32 0#32)))
    (addi w (broadcastInDim S163840 ![] bcast_S_S163840 (constantI S_ 32 10000#32))) w)

/-- Whether the numbers of the column are nodes. -/
def inside (k : IVec S163840x1 32) : IVec S163840 1 :=
  Host.reduce IntOp.andi (andi (cmpi .sge k (broadcastInDim S163840x1 ![] bcast_S_S163840x1 (constantI S_ 32 0#32)))
    (cmpi .sle k (broadcastInDim S163840x1 ![0, 1] bcast_S1x1_S163840x1_0_1 (broadcastInDim S1x1 ![1] bcast_S1_S1x1_1 (constantI S1 32 9999#32)))))
    (constantI S_ 1 1#1) reducesTo_S163840x1_S163840_d1 h_S_

variable (w : IVec S163840 32) (n : Fin 163840 → Fin 10000) (hn : ∀ e, w (ix1 e) = word (n e).val)

include hn

theorem column_at (e : Fin 163840) (i : Fin 1) : column w (ix2 e i) = word (n e).val := by
  pointwise [column]
  rw [hn]
  refine Routing.wrap_of_lt _ _ ?_
  have := (n e).isLt
  simp only [word, BitVec.toNat_ofNat]
  omega

theorem inside_at (e : Fin 163840) : inside (column w) (ix1 e) = 1#1 := by
  refine Host.reduce_andi_one _ _ _ _ _ rfl fun y => ?_
  obtain ⟨a, b, rfl⟩ : ∃ (a : Fin 163840) (b : Fin 1), y = ix2 a b := ⟨_, _, eq_ix2 y⟩
  have h := column_at w n hn a b
  generalize column w = k at h ⊢
  pointwise
  rw [h]
  have := (n a).isLt
  rw [WordCmp.cmpi_sge_eq, WordCmp.cmpi_sle_eq, show (0#32 : BitVec 32).toInt = 0 from rfl]
  simp only [WordCmp.andi_ofBool]
  rw [toInt_word (k := (n a).val) (by omega), show (9999#32 : BitVec 32).toInt = 9999 from rfl, decide_eq_true (by omega), decide_eq_true (by omega)]
  rfl

omit hn

/-- The rows of a table of six columns at a list of nodes. -/
def rows6 (t : FVec Ideal S10000x6 .f32) (w : IVec S163840 32) : FVec Ideal S163840x6 .f32 :=
    select (broadcastInDim S163840x6 ![0] bcast_S163840_S163840x6_0 (inside (column w)))
      (Host.gather gather_S10000x6_S163840x1_S163840x6_1_0_n_n_0_1_16 t (column w))
      (broadcastInDim S163840x6 ![] bcast_S_S163840x6 (constant S_ .f32 0x7FC00000#32))

/-- The rows of a table of a hundred and twenty-eight columns at a list of nodes. -/
def rows128 (t : FVec Ideal S10000x128 .f32) (w : IVec S163840 32) : FVec Ideal S163840x128 .f32 :=
    select (broadcastInDim S163840x128 ![0] bcast_S163840_S163840x128_0 (inside (column w)))
      (Host.gather gather_S10000x128_S163840x1_S163840x128_1_0_n_n_0_1_1128 t (column w))
      (broadcastInDim S163840x128 ![] bcast_S_S163840x128 (constant S_ .f32 0x7FC00000#32))

include hn

theorem rows6_at (t : FVec Ideal S10000x6 .f32) (e : Fin 163840) (d : Fin 6) :
    rows6 t w (ix2 e d) = t (ix2 (n e) d) := by
  have h := inside_at w n hn e
  have hc := column_at w n hn e 0
  unfold rows6
  generalize inside (column w) = q at h ⊢
  generalize column w = k at hc ⊢
  have hg : Host.gather gather_S10000x6_S163840x1_S163840x6_1_0_n_n_0_1_16 t k (ix2 e d) = t (ix2 (n e) d) := by
    simp only [ix2_eq_valueIdx] at hc ⊢
    exact Routing.gather_row _ rfl rfl rfl rfl rfl t k e d (n e) hc (by norm_num)
  generalize Host.gather gather_S10000x6_S163840x1_S163840x6_1_0_n_n_0_1_16 t k = y at hg ⊢
  pointwise
  rw [h, hg]
  exact if_pos rfl

theorem rows128_at (t : FVec Ideal S10000x128 .f32) (e : Fin 163840) (d : Fin 128) :
    rows128 t w (ix2 e d) = t (ix2 (n e) d) := by
  have h := inside_at w n hn e
  have hc := column_at w n hn e 0
  unfold rows128
  generalize inside (column w) = q at h ⊢
  generalize column w = k at hc ⊢
  have hg : Host.gather gather_S10000x128_S163840x1_S163840x128_1_0_n_n_0_1_1128 t k (ix2 e d) = t (ix2 (n e) d) := by
    simp only [ix2_eq_valueIdx] at hc ⊢
    exact Routing.gather_row _ rfl rfl rfl rfl rfl t k e d (n e) hc (by norm_num)
  generalize Host.gather gather_S10000x128_S163840x1_S163840x128_1_0_n_n_0_1_1128 t k = y at hg ⊢
  pointwise
  rw [h, hg]
  exact if_pos rfl

omit hn

theorem take12 : StableHlo.after hostOps3_1 V (Proc.devRef .tc main_v12) =
    rows6 (V (Proc.devRef .tc main_arg1)) (V (Proc.devRef .tc main_v9)) := by
  after_reads_simp
  simp -implicitDefEqProofs only [StableHlo.TRef.toBuf, StableHlo.TRef.ofBuf, cast_cast, cast_eq]
  rfl

theorem take13 : StableHlo.after hostOps3_2 V (Proc.devRef .tc main_v13) =
    rows128 (V (Proc.devRef .tc main_v7_1)) (V (Proc.devRef .tc main_v9)) := by
  after_reads_simp
  simp -implicitDefEqProofs only [StableHlo.TRef.toBuf, StableHlo.TRef.ofBuf, cast_cast, cast_eq]
  rfl

theorem take14 : StableHlo.after hostOps3_3 V (Proc.devRef .tc main_v14) =
    rows128 (V (Proc.devRef .tc main_v7_0)) (V (Proc.devRef .tc main_v9)) := by
  after_reads_simp
  simp -implicitDefEqProofs only [StableHlo.TRef.toBuf, StableHlo.TRef.ofBuf, cast_cast, cast_eq]
  rfl

end Cert.KernelIdeal.Takes

end
-- ==== Proof.Soft.lean ====
/-
  One row's masked softmax over its 64 neighbour slots and its own loop: the kernel's one division of the sums, and the
  same value with every weight divided first.
-/
module

public import proofs.«01_k».proof.Proof.Words

@[expose] public section

noncomputable section

namespace Cert.Net

open Idealize.ShloMosaic

/-- The value of a masked slot's logit. -/
def low : EReal := Ideal.ofBits FTy.f32 0xF149F2CA#32

/-- The floor of a denominator. -/
def eps : EReal := Ideal.ofBits FTy.f32 0x24E69595#32

/-- One where `m` holds, zero elsewhere. -/
def ind (m : Prop) : EReal := by classical exact if m then 1 else 0

/-- The logit where `m` holds, `low` elsewhere. -/
def keep (m : Prop) (a : EReal) : EReal := by classical exact if m then a else low

/-- The largest of a row's logits: the 64 slots' and its own loop's. -/
def top (m : Fin 64 → Prop) (A : Fin 64 → EReal) (a : EReal) : EReal :=
  max (Finset.fold max ⊥ (fun k => keep (m k) (A k)) Finset.univ) a

/-- The sum of a row's weights. -/
def den (m : Fin 64 → Prop) (A : Fin 64 → EReal) (a : EReal) : EReal :=
  ∑ k, Ideal.exp (keep (m k) (A k) - top m A a) * ind (m k) + Ideal.exp (a - top m A a)

/-- A row's masked softmax of the logits `A`, `a` over the values `V`, `v`. -/
def soft (m : Fin 64 → Prop) (A V : Fin 64 → EReal) (a v : EReal) : EReal :=
  Ideal.div (∑ k, Ideal.exp (keep (m k) (A k) - top m A a) * ind (m k) * V k + Ideal.exp (a - top m A a) * v)
    (max (den m A a) eps)

/-- A real number. -/
def IsReal (x : EReal) : Prop := ∃ r : ℝ, x = (r : EReal)

theorem isReal_iff {x : EReal} : IsReal x ↔ x ≠ ⊥ ∧ x ≠ ⊤ := by
  constructor
  · rintro ⟨r, rfl⟩; exact ⟨EReal.coe_ne_bot r, EReal.coe_ne_top r⟩
  · rintro ⟨h, g⟩; exact ⟨x.toReal, (EReal.coe_toReal g h).symm⟩

theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, rfl⟩

theorem IsReal.sub {x y : EReal} (hx : IsReal x) (hy : IsReal y) : IsReal (x - y) := by
  obtain ⟨a, rfl⟩ := hx; obtain ⟨b, rfl⟩ := hy; exact ⟨a - b, rfl⟩

theorem IsReal.mul {x y : EReal} (hx : IsReal x) (hy : IsReal y) : IsReal (x * y) := by
  obtain ⟨a, rfl⟩ := hx; obtain ⟨b, rfl⟩ := hy; exact ⟨a * b, rfl⟩

theorem IsReal.max {x y : EReal} (hx : IsReal x) (hy : IsReal y) : IsReal (max x y) := by
  rcases max_choice x y with h | h <;> rw [h] <;> assumption

theorem coe_sum {ι : Type} (s : Finset ι) (f : ι → ℝ) : ∑ k ∈ s, ((f k : ℝ) : EReal) = ((∑ k ∈ s, f k : ℝ) : EReal) := by
  classical
  induction s using Finset.induction_on with
  | empty => rfl
  | insert a s ha ih => rw [Finset.sum_insert ha, Finset.sum_insert ha, ih, EReal.coe_add]

theorem IsReal.sum {ι : Type} (s : Finset ι) {f : ι → EReal} (h : ∀ k, IsReal (f k)) : IsReal (∑ k ∈ s, f k) := by
  choose g hg using h
  exact ⟨∑ k ∈ s, g k, by simp only [hg, coe_sum]⟩

theorem low_real : IsReal low := Const.neg_big_bits

theorem keep_real {m : Prop} {a : EReal} (h : IsReal a) : IsReal (keep m a) := by
  unfold keep; split
  · exact h
  · exact low_real

theorem ind_real (m : Prop) : IsReal (ind m) := by
  unfold ind; split
  · exact .one
  · exact .zero

theorem top_real {m : Fin 64 → Prop} {A : Fin 64 → EReal} {a : EReal} (hA : ∀ k, IsReal (A k)) (ha : IsReal a) :
    IsReal (top m A a) := by
  rw [isReal_iff]
  obtain ⟨h1, h2⟩ := isReal_iff.1 ha
  refine ⟨fun h => h1 (le_bot_iff.1 ((le_max_right _ _).trans h.le)), ?_⟩
  refine (max_lt ((Finset.fold_max_lt _).2 ⟨bot_lt_top, fun k _ => ?_⟩) (lt_top_iff_ne_top.2 h2)).ne
  exact lt_top_iff_ne_top.2 (isReal_iff.1 (keep_real (hA k))).2

/-- Dividing every weight by the floored sum of the weights before the products is the softmax. -/
theorem soft_eq {m : Fin 64 → Prop} {A V : Fin 64 → EReal} {a v : EReal} (hA : ∀ k, IsReal (A k)) (hV : ∀ k, IsReal (V k))
    (ha : IsReal a) (hv : IsReal v) :
    ∑ k, Ideal.div (Ideal.exp (keep (m k) (A k) - top m A a) * ind (m k)) (max (den m A a) eps) * V k
      + Ideal.div (Ideal.exp (a - top m A a)) (max (den m A a) eps) * v = soft m A V a v := by
  unfold soft den
  obtain ⟨μ, hμ⟩ := top_real (m := m) hA ha
  obtain ⟨ε, hε, -, he⟩ := Const.eps_bits
  have hB : ∀ k, IsReal (keep (m k) (A k)) := fun k => keep_real (hA k)
  have hI : ∀ k, IsReal (ind (m k)) := fun k => ind_real _
  choose B hB using hB
  choose I hI using hI
  choose W hW using hV
  obtain ⟨α, rfl⟩ := ha
  obtain ⟨ν, rfl⟩ := hv
  unfold eps
  simp only [hμ, he, hB, hI, hW, ← EReal.coe_sub, Ideal.exp_coe, ← EReal.coe_mul, coe_sum, ← EReal.coe_add]
  have hD : ∀ d : ℝ, max (d : EReal) (ε : EReal) = ((max d ε : ℝ) : EReal) := fun d =>
    (EReal.coe_strictMono.monotone.map_max).symm
  have hne : ∀ d : ℝ, max d ε ≠ 0 := fun d => (lt_of_lt_of_le hε (le_max_right d ε)).ne'
  simp only [hD, Ideal.div_coe (hne _), ← EReal.coe_mul, coe_sum, ← EReal.coe_add]
  rw [add_mul, Finset.sum_mul]
  congr 2
  · exact Finset.sum_congr rfl fun k _ => by ring
  · ring

/-- A row of its own loop alone keeps its value. -/
theorem loop_eq {a v : EReal} (ha : IsReal a) :
    Ideal.div (Ideal.exp (a - a)) (max (Ideal.exp (a - a)) eps) * v = v := by
  obtain ⟨α, rfl⟩ := ha
  obtain ⟨ε, hε, h1, he⟩ := Const.eps_bits
  unfold eps
  rw [he, ← EReal.coe_sub, sub_self, Ideal.exp_coe, Real.exp_zero, ← EReal.coe_strictMono.monotone.map_max, max_eq_left h1,
    Ideal.div_coe one_ne_zero]
  simp

/-! ## The edges of a row -/

/-- The row of edge `e`: 64 slots of each of the first 2500 rows, then every row's own loop. -/
def row (e : Fin 170000) : Fin 10000 := ⟨if e.val < 160000 then e.val / 64 else e.val - 160000, by split <;> omega⟩

/-- Slot `s` of row `r`. -/
def slotEdge (r : Fin 2500) (s : Fin 64) : Fin 170000 := ⟨r.val * 64 + s.val, by omega⟩

/-- Row `r`'s own loop. -/
def loopEdge (r : Fin 10000) : Fin 170000 := ⟨160000 + r.val, by omega⟩

theorem row_slot (r : Fin 2500) (s : Fin 64) : row (slotEdge r s) = ⟨r.val, by omega⟩ := by
  apply Fin.ext; unfold row slotEdge; dsimp only; rw [if_pos (by omega)]; omega

theorem row_loop (r : Fin 10000) : row (loopEdge r) = r := by
  apply Fin.ext; unfold row loopEdge; dsimp only; rw [if_neg (by omega)]; omega

theorem edge_cases (e : Fin 170000) : (∃ r s, e = slotEdge r s) ∨ ∃ r, e = loopEdge r := by
  by_cases h : e.val < 160000
  · exact .inl ⟨⟨e.val / 64, by omega⟩, ⟨e.val % 64, by omega⟩, Fin.ext (by unfold slotEdge; dsimp only; omega)⟩
  · exact .inr ⟨⟨e.val - 160000, by omega⟩, Fin.ext (by unfold loopEdge; dsimp only; omega)⟩

theorem slot_inj {r r' : Fin 2500} {s s' : Fin 64} (h : slotEdge r s = slotEdge r' s') : r = r' ∧ s = s' := by
  have := Fin.ext_iff.1 h; unfold slotEdge at this; dsimp only at this
  exact ⟨Fin.ext (by omega), Fin.ext (by omega)⟩

theorem slot_ne_loop (r : Fin 2500) (s : Fin 64) (r' : Fin 10000) : slotEdge r s ≠ loopEdge r' := fun h => by
  have := Fin.ext_iff.1 h; unfold slotEdge loopEdge at this; dsimp only at this; omega

/-- The edges of one of the first 2500 rows. -/
theorem edges_head (r : Fin 2500) : (Finset.univ.filter fun e => row e = ⟨r.val, by omega⟩)
    = insert (loopEdge ⟨r.val, by omega⟩) (Finset.univ.image (slotEdge r)) := by
  ext e
  simp only [Finset.mem_filter, Finset.mem_univ, true_and, Finset.mem_insert, Finset.mem_image]
  constructor
  · intro h
    rcases edge_cases e with ⟨r', s, rfl⟩ | ⟨r', rfl⟩
    · rw [row_slot] at h
      have : r' = r := Fin.ext (by have := Fin.ext_iff.1 h; exact this)
      exact .inr ⟨s, by rw [this]⟩
    · rw [row_loop] at h; exact .inl (by rw [h])
  · rintro (rfl | ⟨s, rfl⟩)
    · exact row_loop _
    · exact row_slot r s

/-- The edges of a later row. -/
theorem edges_tail (r : Fin 10000) (h : 2500 ≤ r.val) : (Finset.univ.filter fun e => row e = r) = {loopEdge r} := by
  ext e
  simp only [Finset.mem_filter, Finset.mem_univ, true_and, Finset.mem_singleton]
  constructor
  · intro g
    rcases edge_cases e with ⟨r', s, rfl⟩ | ⟨r', rfl⟩
    · rw [row_slot] at g; have := Fin.ext_iff.1 g; dsimp only at this; omega
    · rw [row_loop] at g; rw [g]
  · rintro rfl; exact row_loop _

theorem sum_head (f : Fin 170000 → EReal) (r : Fin 2500) :
    ∑ e ∈ Finset.univ.filter (fun e => row e = ⟨r.val, by omega⟩), f e
      = ∑ s, f (slotEdge r s) + f (loopEdge ⟨r.val, by omega⟩) := by
  rw [edges_head, Finset.sum_insert, add_comm, Finset.sum_image]
  · exact fun s _ s' _ h => (slot_inj h).2
  · intro h
    obtain ⟨s, -, hs⟩ := Finset.mem_image.1 h
    exact slot_ne_loop _ _ _ hs

theorem sum_tail (f : Fin 170000 → EReal) (r : Fin 10000) (h : 2500 ≤ r.val) :
    ∑ e ∈ Finset.univ.filter (fun e => row e = r), f e = f (loopEdge r) := by
  rw [edges_tail r h, Finset.sum_singleton]

/-- The largest of the edges' values at a row, `⊥` standing for the edges of other rows. -/
theorem max_filter (f : Fin 170000 → EReal) (r : Fin 10000) :
    Finset.fold max ⊥ (fun e => if row e = r then f e else ⊥) Finset.univ
      = Finset.fold max ⊥ f (Finset.univ.filter fun e => row e = r) := by
  refine le_antisymm ((Finset.fold_max_le _).2 ⟨bot_le, fun e _ => ?_⟩) ((Finset.fold_max_le _).2 ⟨bot_le, fun e he => ?_⟩)
  · split
    · rename_i h
      exact (Finset.le_fold_max _).2 (.inr ⟨e, Finset.mem_filter.2 ⟨Finset.mem_univ _, h⟩, le_rfl⟩)
    · exact bot_le
  · exact (Finset.le_fold_max _).2 (.inr ⟨e, Finset.mem_univ _, by rw [if_pos (Finset.mem_filter.1 he).2]⟩)

theorem max_head (f : Fin 170000 → EReal) (r : Fin 2500) :
    Finset.fold max ⊥ f (Finset.univ.filter fun e => row e = ⟨r.val, by omega⟩)
      = max (Finset.fold max ⊥ (fun s => f (slotEdge r s)) Finset.univ) (f (loopEdge ⟨r.val, by omega⟩)) := by
  refine le_antisymm ((Finset.fold_max_le _).2 ⟨bot_le, fun e he => ?_⟩) (max_le ((Finset.fold_max_le _).2 ⟨bot_le, fun s _ => ?_⟩) ?_)
  · rw [edges_head] at he
    rcases Finset.mem_insert.1 he with rfl | h
    · exact le_max_right _ _
    · obtain ⟨s, -, rfl⟩ := Finset.mem_image.1 h
      exact ((Finset.le_fold_max _).2 (.inr ⟨s, Finset.mem_univ _, le_refl (f (slotEdge r s))⟩)).trans (le_max_left _ _)
  · exact (Finset.le_fold_max _).2 (.inr ⟨_, Finset.mem_filter.2 ⟨Finset.mem_univ _, row_slot r s⟩, le_rfl⟩)
  · exact (Finset.le_fold_max _).2 (.inr ⟨_, Finset.mem_filter.2 ⟨Finset.mem_univ _, row_loop _⟩, le_rfl⟩)

theorem max_tail (f : Fin 170000 → EReal) (r : Fin 10000) (h : 2500 ≤ r.val) :
    Finset.fold max ⊥ f (Finset.univ.filter fun e => row e = r) = f (loopEdge r) := by
  rw [edges_tail r h, Finset.fold_singleton, max_eq_left bot_le]

end Cert.Net

end
-- ==== Proof.Fps.lean ====
/-
  Farthest point sampling: the points taken, as one recursion over plain functions, and the kernel's first call, whose
  loop follows it.
-/
module

public import proofs.«01_k».proof.Proof.Words
public import proofs.«01_k».proof.Proof.Gen.KernelIdeal.Skeleton
public import Idealize.ShloMosaic.Lib.ValueIdx

@[expose] public section

set_option maxRecDepth 16384

noncomputable section

namespace Cert.Rank

/-- The first greatest position of a nonempty family. -/
def argmax {n : Nat} (hn : 0 < n) (g : Fin n → EReal) : Fin n := (exists_firstMax g hn).choose

theorem argmax_spec {n : Nat} (hn : 0 < n) (g : Fin n → EReal) : FirstMax g (argmax hn g) := (exists_firstMax g hn).choose_spec

/-- The squared distance of two points. -/
def dist2 (p : Fin 10000 → Fin 6 → EReal) (j l : Fin 10000) : EReal := ∑ d : Fin 6, (p j d - p l d) * (p j d - p l d)

/-- After `i` steps: every point's least squared distance to the points taken before the last, and the last point taken. -/
def fps (p : Fin 10000 → Fin 6 → EReal) : Nat → (Fin 10000 → EReal) × Fin 10000
  | 0 => (fun _ => ⊤, 0)
  | i + 1 =>
    let m := fun j => min ((fps p i).1 j) (dist2 p j (fps p i).2)
    (m, argmax (by decide) m)

/-- The `i`-th point taken. -/
def taken (p : Fin 10000 → Fin 6 → EReal) (i : Nat) : Fin 10000 := (fps p i).2

theorem fps_succ_fst (p : Fin 10000 → Fin 6 → EReal) (i : Nat) (j : Fin 10000) :
    (fps p (i + 1)).1 j = min ((fps p i).1 j) (dist2 p j (fps p i).2) := rfl

theorem fps_succ_snd (p : Fin 10000 → Fin 6 → EReal) (i : Nat) : FirstMax (fps p (i + 1)).1 (fps p (i + 1)).2 :=
  argmax_spec (by decide) _

end Cert.Rank

namespace Cert.KernelIdeal.Fps

open Idealize.ShloMosaic Idealize.ShloMosaic.TcCoe Idealize.SL.Sem
open Cert.KernelIdeal Cert.KernelIdeal.Gen Cert.Rank

variable (v0 : Vec Ideal S6x10000 .f32)

/-- The named constant is `⊤`. -/
theorem big_eq : (Named.named κ "big" (φ := .f32) 1900671690#32 : Ideal .f32) = (⊤ : EReal) := rfl

/-- The points of the coordinate-major array. -/
def pts (j : Fin 10000) (d : Fin 6) : EReal := v0 (ix2 d j)

theorem pay3_at (i : Fin 1) (j : Fin 10000) : k0_pay3 (F := Ideal) (ix2 i j) = (⊤ : EReal) := by
  pointwise [k0_pay3]
  exact big_eq

theorem pay4_at (a : FVec Ideal S1x10000 .f32) (l j : Fin 10000) (i : Fin 1) :
    k0_pay4 v0 a (word l.val) (ix2 i j) = min (a (ix2 0 j)) (dist2 (pts v0) j l) := by
  obtain rfl : i = 0 := Subsingleton.elim _ _
  pointwise [k0_pay4, k0_pay1]
  simp only [sum_mask (n := 10000) (by norm_num) _ l]
  rfl

theorem pay5_at (a : FVec Ideal S1x10000 .f32) (w : BitVec 32) (g : Fin 10000 → EReal) (hg : ∀ j, k0_pay4 v0 a w (ix2 0 j) = g j)
    (l : Fin 10000) (hl : FirstMax g l) (i j k : Fin 1) : k0_pay5 v0 a w (ix3 i j k) = word l.val := by
  unfold k0_pay5
  generalize k0_pay4 v0 a w = m at hg ⊢
  pointwise
  simp only [Const.bot_bits, hg]
  rw [fold_max hl Prod.snd Prod.snd_surjective]
  exact fold_minsi Prod.snd Prod.snd_surjective (fun x => g x = g l) l rfl fun k hk => (hl.2 k hk).ne

theorem trips_eq : k0_t1_loop.trips = 2499 := by decide +kernel

theorem extract_at (m : IVec S1x1x1 32) : extractAt ![0, 0, 0] m inpos_S1x1x1_p0_0_0 = m (ix3 0 0 0) := by
  pointwise

theorem pay6_at (a : FVec Ideal S1x10000 .f32) (w : BitVec 32) (t : Fin k0_t1_loop.trips) (b : FVec Ideal S6x2500 .f32) (l : Fin 10000)
    (hl : ∀ i j k, k0_pay5 v0 a w (ix3 i j k) = word l.val) (d : Fin 6) (k : Fin 2500) :
    k0_pay6 v0 t a b w (ix2 d k) = if k.val = t.val + 1 then pts v0 l d else b (ix2 d k) := by
  unfold k0_pay6
  generalize k0_pay5 v0 a w = m at hl ⊢
  pointwise [k0_pay1]
  simp only [hl, sum_mask (n := 10000) (by norm_num) _ l]
  have ht := t.isLt
  have ht' := trips_eq
  rw [iv_eq 1 t.val, select_word (by omega) (by omega), Nat.add_comm]
  rfl

theorem pay2_at (d : Fin 6) (k : Fin 2500) : k0_pay2 v0 (ix2 d k) = if k.val = 0 then pts v0 0 d else 0 := by
  pointwise [k0_pay2, k0_pay1]
  rw [select_word (b := 0) (by omega) (by omega)]
  exact if_congr Iff.rfl (sum_mask (n := 10000) (by norm_num) (fun x => v0 (ix2 d x)) 0) rfl

/-- One trip of the loop, on the values it carries. -/
abbrev trip (k : Fin k0_t1_loop.trips) (s : FVec Ideal S1x10000 .f32 × FVec Ideal S6x2500 .f32 × BitVec 32) :
    FVec Ideal S1x10000 .f32 × FVec Ideal S6x2500 .f32 × BitVec 32 :=
  (k0_pay4 v0 s.1 s.2.2, k0_pay6 v0 k s.1 s.2.1 s.2.2, extractAt ![0, 0, 0] (k0_pay5 v0 s.1 s.2.2) inpos_S1x1x1_p0_0_0)

/-- What the loop carries after `t` trips: the least distances and the last point of `fps`, and the points taken so far. -/
structure Inv (t : Nat) (a : FVec Ideal S1x10000 .f32) (b : FVec Ideal S6x2500 .f32) (w : BitVec 32) : Prop where
  mind : ∀ j, a (ix2 0 j) = (fps (pts v0) t).1 j
  last : w = word (fps (pts v0) t).2.val
  acc : ∀ d k, b (ix2 d k) = if k.val ≤ t then pts v0 (taken (pts v0) k.val) d else 0

theorem inv_zero : Inv v0 0 k0_pay3 (k0_pay2 v0) 0#32 where
  mind j := pay3_at 0 j
  last := rfl
  acc d k := by
    rw [pay2_at]
    by_cases hk : k.val = 0
    · rw [if_pos hk, if_pos (by omega), hk]; rfl
    · rw [if_neg hk, if_neg (by omega)]

theorem inv_succ (t : Fin k0_t1_loop.trips) (a : FVec Ideal S1x10000 .f32) (b : FVec Ideal S6x2500 .f32) (w : BitVec 32)
    (h : Inv v0 t.val a b w) : Inv v0 (t.val + 1) (k0_pay4 v0 a w) (k0_pay6 v0 t a b w)
      (extractAt ![0, 0, 0] (k0_pay5 v0 a w) inpos_S1x1x1_p0_0_0) := by
  have e4 : ∀ j, k0_pay4 v0 a w (ix2 0 j) = (fps (pts v0) (t.val + 1)).1 j := fun j => by
    rw [h.last, pay4_at, h.mind, fps_succ_fst]
  have e5 : ∀ i j k, k0_pay5 v0 a w (ix3 i j k) = word (fps (pts v0) (t.val + 1)).2.val := fun i j k =>
    pay5_at v0 a w _ e4 _ (fps_succ_snd (pts v0) t.val) i j k
  refine ⟨e4, (extract_at _).trans (e5 0 0 0), fun d k => ?_⟩
  rw [pay6_at v0 a w t b _ e5, h.acc]
  by_cases hk : k.val = t.val + 1
  · rw [if_pos hk, if_pos (by omega), hk]; rfl
  · rw [if_neg hk]
    exact if_congr (by omega) rfl rfl

/-- The same, of the tuple the loop carries. -/
def InvS (t : Nat) (s : FVec Ideal S1x10000 .f32 × FVec Ideal S6x2500 .f32 × BitVec 32) : Prop := Inv v0 t s.1 s.2.1 s.2.2

theorem invS_succ (t : Fin k0_t1_loop.trips) (s : FVec Ideal S1x10000 .f32 × FVec Ideal S6x2500 .f32 × BitVec 32)
    (h : InvS v0 t.val s) : InvS v0 (t.val + 1) (trip v0 t s) := by
  obtain ⟨a, b, w⟩ := s
  have h' : Inv v0 t.val a b w := h
  have h2 := inv_succ v0 t a b w h'
  generalize hA : k0_pay4 v0 a w = A at h2
  generalize hB : k0_pay6 v0 t a b w = B at h2
  generalize hC : extractAt ![0, 0, 0] (k0_pay5 v0 a w) inpos_S1x1x1_p0_0_0 = C at h2
  have e : trip v0 t (a, b, w) = (A, B, C) := by
    unfold trip
    rw [hA, hB, hC]
  rw [e]
  exact h2

/-- The array of points taken, coordinate-major. -/
def result : FVec Ideal S6x2500 .f32 := fun i => pts v0 (taken (pts v0) (i 1).val) (i 0)

/-- The loop leaves the points taken. -/
theorem fold_eq : (Scf.fold (trip v0) (k0_pay3, k0_pay2 v0, 0#32)).2.1 = result v0 := by
  have h := fold_inv (trip v0) (InvS v0) (k0_pay3, k0_pay2 v0, 0#32) (inv_zero v0) (invS_succ v0)
  funext i
  obtain ⟨d, k, rfl⟩ : ∃ d k, i = ix2 d k := ⟨i 0, i 1, eq_ix2 i⟩
  rw [h.acc d k, if_pos]
  · rfl
  · rw [trips_eq]; omega

end Cert.KernelIdeal.Fps

end
-- ==== Proof.Radius.lean ====
/-
  The neighbours of a query: the points within the radius by ascending distance, and the kernel's second call, whose loop
  takes them out one at a time.
-/
module

public import proofs.«01_k».proof.Proof.Fps

@[expose] public section

set_option maxRecDepth 16384

noncomputable section

namespace Cert.Rank

open Idealize.ShloMosaic

/-- The bound on the squared distance. -/
def r2 : EReal := Ideal.ofBits FTy.f32 0x40C80000#32

/-- The squared distance of a point to the query `q` where it is within the radius, and `⊤` elsewhere. -/
def near (p : Fin 10000 → Fin 6 → EReal) (q : Fin 6 → EReal) (j : Fin 10000) : EReal := by
  classical exact if ∑ d : Fin 6, (p j d - q d) * (p j d - q d) ≤ r2 then ∑ d : Fin 6, (p j d - q d) * (p j d - q d) else ⊤

/-- The positions by ascending key, equal keys by position. -/
def order {n : Nat} (f : Fin n → EReal) : Fin n → Fin n := by
  classical exact sortedFrom fun a b => decide (f a < f b)

theorem order_ranked {n : Nat} (f : Fin n → EReal) : Ranked f (order f) := by
  classical exact ranked_sortedFrom fun a b => by simp

/-- A slot of the neighbour list as a position of the ranking. -/
abbrev slot (s : Fin 64) : Fin 10000 := ⟨s.val, by omega⟩

/-- The neighbour of the query in slot `s` (point 0 where there is none). -/
def nbr (p : Fin 10000 → Fin 6 → EReal) (q : Fin 6 → EReal) (s : Fin 64) : Fin 10000 := pick (near p q) (order (near p q)) (slot s)

/-- Slot `s` holds a neighbour within the radius. -/
def isNbr (p : Fin 10000 → Fin 6 → EReal) (q : Fin 6 → EReal) (s : Fin 64) : Prop := near p q (order (near p q) (slot s)) < ⊤

theorem near_lt {p : Fin 10000 → Fin 6 → EReal} {q : Fin 6 → EReal} {j : Fin 10000} :
    near p q j < Ideal.ofBits FTy.f32 1892283082#32 ↔ near p q j < ⊤ := by
  obtain ⟨r, hr, e⟩ := Const.half_big_bits
  rw [e]
  constructor
  · intro h; exact h.trans (EReal.coe_lt_top r)
  · unfold near
    intro h
    split at h
    · rename_i h1
      rw [if_pos h1]
      refine lt_of_le_of_lt h1 ?_
      unfold r2
      rw [Const.r2_bits]
      exact EReal.coe_lt_coe_iff.2 (by linarith)
    · exact absurd h (lt_irrefl _)

end Cert.Rank

namespace Cert.KernelIdeal.Radius

open Idealize.ShloMosaic Idealize.ShloMosaic.TcCoe Idealize.SL.Sem
open Cert.KernelIdeal Cert.KernelIdeal.Gen Cert.Rank

/-- The first five coordinates' partial sum with the last two added, and the comparison with the bound. -/
theorem pay1_at (p : Fin 10000 → Fin 6 → EReal) (q : Fin 128 → Fin 6 → EReal)
    (v1 v9 v17 v25 v33 v41 : Vec Ideal S10000x1 .f32) (v2 v10 v18 v26 v34 v42 : Vec Ideal S1x128 .f32)
    (h0 : ∀ j, v1 (ix2 j 0) = p j 0) (h1 : ∀ j, v9 (ix2 j 0) = p j 1) (h2 : ∀ j, v17 (ix2 j 0) = p j 2)
    (h3 : ∀ j, v25 (ix2 j 0) = p j 3) (h4 : ∀ j, v33 (ix2 j 0) = p j 4) (h5 : ∀ j, v41 (ix2 j 0) = p j 5)
    (g0 : ∀ l, v2 (ix2 0 l) = q l 0) (g1 : ∀ l, v10 (ix2 0 l) = q l 1) (g2 : ∀ l, v18 (ix2 0 l) = q l 2)
    (g3 : ∀ l, v26 (ix2 0 l) = q l 3) (g4 : ∀ l, v34 (ix2 0 l) = q l 4) (g5 : ∀ l, v42 (ix2 0 l) = q l 5)
    (j : Fin 10000) (l : Fin 128) :
    k1_pay1 (k1_pay9 v1 v2 v9 v10 v17 v18 v25 v26) (k1_pay10 v33) (k1_pay11 v34) v41 v42 (ix2 j l) = near p (q l) j := by
  pointwise [k1_pay1, k1_pay9, k1_pay10, k1_pay11]
  simp only [h0, h1, h2, h3, h4, h5, g0, g1, g2, g3, g4, g5, zero_add, Fps.big_eq]
  unfold near r2
  rw [Fin.sum_univ_six]

theorem pay4_at (a : FVec Ideal S10000x128 .f32) (i : Fin 1) (l : Fin 128) (g : Fin 10000 → EReal) (h : ∀ j, a (ix2 j l) = g j)
    (x : Fin 10000) (hx : FirstMin g x) : k1_pay4 a (ix2 i l) = g x := by
  pointwise [k1_pay4]
  simp only [h, Const.top_bits]
  exact fold_min hx

theorem pay5_at (a : FVec Ideal S10000x128 .f32) (i : Fin 1) (l : Fin 128) (g : Fin 10000 → EReal) (h : ∀ j, a (ix2 j l) = g j)
    (x : Fin 10000) (hx : FirstMin g x) : k1_pay5 a (ix2 i l) = word x.val := by
  have h4 := fun i => pay4_at a i l g h x hx
  unfold k1_pay5
  generalize k1_pay4 a = m at h4 ⊢
  pointwise
  simp only [h, h4]
  exact fold_minsi id Function.surjective_id (fun j => g j = g x) x rfl fun k hk e => absurd (hx.2 k hk) (by rw [e]; exact lt_irrefl _)

theorem trips_eq : k1_t1_loop.trips = 64 := by decide +kernel

theorem pay6_at (a : FVec Ideal S10000x128 .f32) (t : Fin k1_t1_loop.trips) (b : IVec S64x128 32) (s : Fin 64) (l : Fin 128) :
    k1_pay6 t a b (ix2 s l) = if s.val = t.val then k1_pay5 a (ix2 0 l) else b (ix2 s l) := by
  unfold k1_pay6
  generalize k1_pay5 a = m
  pointwise
  have ht := t.isLt
  have ht' := trips_eq
  rw [iv_eq 0 t.val, select_word (by omega) (by omega), Nat.zero_add]

theorem pay7_at (a : FVec Ideal S10000x128 .f32) (w : BitVec 32) (t : Fin k1_t1_loop.trips) (b : FVec Ideal S64x128 .f32) (s : Fin 64)
    (l : Fin 128) (row : Nat) (hrow : row < 2 ^ 31) (hw : IntOp.addi (Scalar.muli w 128#32) (word l.val) = word row)
    (g : Fin 10000 → EReal) (h : ∀ j, a (ix2 j l) = g j) (x : Fin 10000) (hx : FirstMin g x) :
    k1_pay7 w t a b (ix2 s l) = if s.val = t.val then
      (if g x < Ideal.ofBits FTy.f32 1892283082#32 ∧ x.val ≠ row then 1 else 0) else b (ix2 s l) := by
  have h4 := fun i => pay4_at a i l g h x hx
  have h5 := fun i => pay5_at a i l g h x hx
  unfold k1_pay7
  generalize k1_pay4 a = m4 at h4 ⊢
  generalize k1_pay5 a = m5 at h5 ⊢
  pointwise
  have ht := t.isLt
  have ht' := trips_eq
  have hxl := x.isLt
  rw [iv_eq 0 t.val, select_word (by omega) (by omega), Nat.zero_add, h4, h5]
  refine if_congr Iff.rfl ?_ rfl
  have hw' : IntOp.addi (Scalar.muli w 128#32) (BitVec.ofNat 32 l.val) = word row := hw
  rw [hw']
  have e : IntOp.cmpi .ne (word x.val) (word row) = BitVec.ofBool (decide (x.val ≠ row)) := by
    have hi := word_inj (a := x.val) (b := row) (by omega) hrow
    unfold IntOp.cmpi
    by_cases hxr : x.val = row
    · simp [hxr]
    · have hne : ¬ word x.val = word row := fun q => hxr (hi.1 q)
      have hb : (word x.val != word row) = true := bne_iff_ne.2 hne
      simp [hxr, hb]
  rw [e]
  by_cases c1 : g x < Ideal.ofBits FTy.f32 1892283082#32 <;> by_cases c2 : x.val = row <;>
    simp [c1, c2, Scalar.select, IntOp.andi]

theorem pay8_at (a : FVec Ideal S10000x128 .f32) (l : Fin 128) (g : Fin 10000 → EReal) (h : ∀ j, a (ix2 j l) = g j)
    (x : Fin 10000) (hx : FirstMin g x) (j : Fin 10000) : k1_pay8 a (ix2 j l) = if j = x then ⊤ else g j := by
  have h5 := fun i => pay5_at a i l g h x hx
  unfold k1_pay8
  generalize k1_pay5 a = m5 at h5 ⊢
  pointwise
  have hxl := x.isLt
  have hjl := j.isLt
  rw [h5, select_word (by omega) (by omega), h, Fps.big_eq]
  exact if_congr Fin.ext_iff.symm rfl rfl

theorem pay2_at (s : Fin 64) (l : Fin 128) : k1_pay2 (ix2 s l) = 0#32 := by
  pointwise [k1_pay2]

theorem pay3_at (s : Fin 64) (l : Fin 128) : k1_pay3 (F := Ideal) (ix2 s l) = (0 : EReal) := by
  pointwise [k1_pay3]

variable (w : BitVec 32) (p : Fin 10000 → Fin 6 → EReal) (q : Fin 128 → Fin 6 → EReal) (row : Fin 128 → Nat)

/-- The mask's value at a slot. -/
def maskv (q : Fin 6 → EReal) (row : Nat) (s : Fin 64) : EReal := by
  classical exact if isNbr p q s ∧ (nbr p q s).val ≠ row then 1 else 0

/-- What the loop carries after `t` trips: the distances with the first `t` neighbours raised to `⊤`, and the first `t`
    slots of the lists of neighbours and of the masks. -/
structure Inv (t : Nat) (a : FVec Ideal S10000x128 .f32) (b : IVec S64x128 32) (c : FVec Ideal S64x128 .f32) : Prop where
  rest : ∀ j l, a (ix2 j l) = cut (near p (q l)) (order (near p (q l))) t j
  cols : ∀ (s : Fin 64) l, s.val < t → b (ix2 s l) = word (nbr p (q l) s).val
  mask : ∀ (s : Fin 64) l, s.val < t → c (ix2 s l) = maskv p (q l) (row l) s

theorem inv_succ (hrow : ∀ l, row l < 2 ^ 31) (hw : ∀ l : Fin 128, IntOp.addi (Scalar.muli w 128#32) (word l.val) = word (row l))
    (t : Fin k1_t1_loop.trips) (a : FVec Ideal S10000x128 .f32) (b : IVec S64x128 32) (c : FVec Ideal S64x128 .f32)
    (h : Inv p q row t.val a b c) : Inv p q row (t.val + 1) (k1_pay8 a) (k1_pay6 t a b) (k1_pay7 w t a c) := by
  have ht' : t.val < 64 := lt_of_lt_of_eq t.isLt trips_eq
  have hx : ∀ l, FirstMin (cut (near p (q l)) (order (near p (q l))) t.val) (nbr p (q l) ⟨t.val, ht'⟩) := fun l =>
    (order_ranked (near p (q l))).firstMin_pick (slot ⟨t.val, ht'⟩)
  refine ⟨fun j l => ?_, fun s l hs => ?_, fun s l hs => ?_⟩
  · rw [pay8_at a l _ (fun j => h.rest j l) _ (hx l)]
    exact (order_ranked (near p (q l))).cut_succ (slot ⟨t.val, ht'⟩) j
  · rw [pay6_at]
    by_cases e : s.val = t.val
    · rw [if_pos e, pay5_at a 0 l _ (fun j => h.rest j l) _ (hx l)]
      have : s = ⟨t.val, ht'⟩ := Fin.ext e
      rw [this]
    · rw [if_neg e]; exact h.cols s l (by omega)
  · rw [pay7_at a w t c s l (row l) (hrow l) (hw l) _ (fun j => h.rest j l) _ (hx l)]
    by_cases e : s.val = t.val
    · have e' : s = ⟨t.val, ht'⟩ := Fin.ext e
      subst e'
      rw [if_pos rfl]
      have hc : cut (near p (q l)) (order (near p (q l))) t.val (nbr p (q l) ⟨t.val, ht'⟩) = near p (q l) (order (near p (q l)) (slot ⟨t.val, ht'⟩)) :=
        (order_ranked (near p (q l))).cut_pick (slot ⟨t.val, ht'⟩)
      rw [hc]
      unfold maskv isNbr
      by_cases h1 : near p (q l) (order (near p (q l)) (slot ⟨t.val, ht'⟩)) < ⊤ ∧ (nbr p (q l) ⟨t.val, ht'⟩).val ≠ row l
      · rw [if_pos h1, if_pos ⟨near_lt.2 h1.1, h1.2⟩]
      · rw [if_neg h1, if_neg fun c => h1 ⟨near_lt.1 c.1, c.2⟩]
    · rw [if_neg e]; exact h.mask s l (by omega)

/-- One trip of the loop, on the values it carries. -/
abbrev trip (k : Fin k1_t1_loop.trips) (s : FVec Ideal S10000x128 .f32 × IVec S64x128 32 × FVec Ideal S64x128 .f32) :
    FVec Ideal S10000x128 .f32 × IVec S64x128 32 × FVec Ideal S64x128 .f32 :=
  (k1_pay8 s.1, k1_pay6 k s.1 s.2.1, k1_pay7 w k s.1 s.2.2)

/-- The invariant, of the tuple the loop carries. -/
def InvS (t : Nat) (s : FVec Ideal S10000x128 .f32 × IVec S64x128 32 × FVec Ideal S64x128 .f32) : Prop := Inv p q row t s.1 s.2.1 s.2.2

theorem invS_succ (hrow : ∀ l, row l < 2 ^ 31) (hw : ∀ l : Fin 128, IntOp.addi (Scalar.muli w 128#32) (word l.val) = word (row l))
    (t : Fin k1_t1_loop.trips) (s : FVec Ideal S10000x128 .f32 × IVec S64x128 32 × FVec Ideal S64x128 .f32)
    (h : InvS p q row t.val s) : InvS p q row (t.val + 1) (trip w t s) := by
  obtain ⟨a, b, c⟩ := s
  have h' : Inv p q row t.val a b c := h
  have h2 := inv_succ w p q row hrow hw t a b c h'
  generalize hA : k1_pay8 a = A at h2
  generalize hB : k1_pay6 t a b = B at h2
  generalize hC : k1_pay7 w t a c = C at h2
  have e : trip w t (a, b, c) = (A, B, C) := by
    unfold trip
    rw [hA, hB, hC]
  rw [e]
  exact h2

/-- The loop leaves the lists of neighbours and their masks. -/
theorem fold_spec (hrow : ∀ l, row l < 2 ^ 31) (hw : ∀ l : Fin 128, IntOp.addi (Scalar.muli w 128#32) (word l.val) = word (row l))
    (a : FVec Ideal S10000x128 .f32) (ha : ∀ j l, a (ix2 j l) = near p (q l) j) :
    (∀ (s : Fin 64) (l : Fin 128), (Scf.fold (trip w) (a, k1_pay2, k1_pay3 (F := Ideal))).2.1 (ix2 s l) = word (nbr p (q l) s).val)
    ∧ ∀ (s : Fin 64) (l : Fin 128), (Scf.fold (trip w) (a, k1_pay2, k1_pay3 (F := Ideal))).2.2 (ix2 s l) = maskv p (q l) (row l) s := by
  have h0 : Inv p q row 0 a k1_pay2 (k1_pay3 (F := Ideal)) :=
    ⟨fun j l => by rw [ha, cut_zero], fun s l hs => absurd hs (by omega), fun s l hs => absurd hs (by omega)⟩
  have h := fold_inv (trip w) (InvS p q row) (a, k1_pay2, k1_pay3 (F := Ideal)) h0 (invS_succ w p q row hrow hw)
  have ht := trips_eq
  exact ⟨fun s l => h.cols s l (by omega), fun s l => h.mask s l (by omega)⟩

end Cert.KernelIdeal.Radius

end
-- ==== Proof.Net.lean ====
/-
  The layer's mathematics over plain functions: the linear maps, the position term, the logits, and the result row by row.
-/
module

public import proofs.«01_k».proof.Proof.Soft
public import proofs.«01_k».proof.Proof.Radius

@[expose] public section

noncomputable section

namespace Cert.Net

open Idealize.ShloMosaic Cert.Rank

/-- The layer's arguments. -/
structure Args where
  x : Fin 10000 → Fin 128 → EReal
  pos : Fin 10000 → Fin 6 → EReal
  wl : Fin 128 → Fin 128 → EReal
  ws : Fin 128 → Fin 128 → EReal
  wd : Fin 128 → Fin 128 → EReal
  p1 : Fin 6 → Fin 64 → EReal
  b1 : Fin 64 → EReal
  p2 : Fin 64 → Fin 128 → EReal
  b2 : Fin 128 → EReal
  wa : Fin 128 → Fin 128 → EReal
  ba : Fin 128 → EReal

variable (N : Args)

/-- A row of features through a matrix. -/
def lin (x : Fin 128 → EReal) (w : Fin 128 → Fin 128 → EReal) (l : Fin 128) : EReal := ∑ k, x k * w k l

/-- The second layer of the position term. -/
def second (h : Fin 64 → EReal) (l : Fin 128) : EReal := max (∑ k, max (h k) 0 * N.p2 k l + N.b2 l) 0

/-- The position term of two points. -/
def delta (a b : Fin 6 → EReal) (l : Fin 128) : EReal := second N (fun k => ∑ d, (a d - b d) * N.p1 d k + N.b1 k) l

/-- The position term of a point with itself. -/
def delta0 (l : Fin 128) : EReal := second N N.b1 l

/-- The logits of a destination row, a source row and a position term. -/
def logit (d s e : Fin 128 → EReal) (l : Fin 128) : EReal := ∑ k, (d k - s k + e k) * N.wa k l + N.ba l

/-- The values, the source rows and the destination rows. -/
def xv (j : Fin 10000) (l : Fin 128) : EReal := lin (N.x j) N.wl l
def src (j : Fin 10000) (l : Fin 128) : EReal := lin (N.x j) N.ws l
def dst (j : Fin 10000) (l : Fin 128) : EReal := lin (N.x j) N.wd l

/-- The logit and the value of a point's own loop. -/
def aloop (j : Fin 10000) (l : Fin 128) : EReal := logit N (dst N j) (src N j) (delta0 N) l
def vloop (j : Fin 10000) (l : Fin 128) : EReal := xv N j l + delta0 N l

/-- Query `r`'s point. -/
def qry (r : Nat) : Fin 6 → EReal := N.pos (taken N.pos r)

/-- The neighbour in slot `s` of query `r`. -/
def col (r : Nat) (s : Fin 64) : Fin 10000 := nbr N.pos (qry N r) s

/-- The slot is an edge: within the radius and not the row's own node. -/
def edge (r : Nat) (s : Fin 64) : Prop := isNbr N.pos (qry N r) s ∧ (col N r s).val ≠ r

/-- The logit and the value of the slot's edge. -/
def aslot (r : Fin 10000) (s : Fin 64) (l : Fin 128) : EReal :=
  logit N (dst N r) (src N (col N r.val s)) (delta N (N.pos r) (N.pos (col N r.val s))) l
def vslot (r : Fin 10000) (s : Fin 64) (l : Fin 128) : EReal :=
  xv N (col N r.val s) l + delta N (N.pos r) (N.pos (col N r.val s)) l

/-- The result: the softmax of the row's slots and own loop for the first 2500 rows, the own loop's value elsewhere. -/
def out (r : Fin 10000) (l : Fin 128) : EReal :=
  if r.val < 2500 then soft (edge N r.val) (fun s => aslot N r s l) (fun s => vslot N r s l) (aloop N r l) (vloop N r l)
  else vloop N r l

/-- Every argument is finite. -/
structure Args.Finite : Prop where
  x : ∀ i j, IsReal (N.x i j)
  pos : ∀ i j, IsReal (N.pos i j)
  wl : ∀ i j, IsReal (N.wl i j)
  ws : ∀ i j, IsReal (N.ws i j)
  wd : ∀ i j, IsReal (N.wd i j)
  p1 : ∀ i j, IsReal (N.p1 i j)
  b1 : ∀ i, IsReal (N.b1 i)
  p2 : ∀ i j, IsReal (N.p2 i j)
  b2 : ∀ i, IsReal (N.b2 i)
  wa : ∀ i j, IsReal (N.wa i j)
  ba : ∀ i, IsReal (N.ba i)

variable {N} (h : N.Finite)
include h

theorem second_real {g : Fin 64 → EReal} (hg : ∀ k, IsReal (g k)) (l : Fin 128) : IsReal (second N g l) :=
  .max (.add (.sum _ fun k => .mul (.max (hg k) .zero) (h.p2 k l)) (h.b2 l)) .zero

theorem delta_real (i j : Fin 10000) (l : Fin 128) : IsReal (delta N (N.pos i) (N.pos j) l) :=
  second_real h (fun k => .add (.sum _ fun d => .mul (.sub (h.pos i d) (h.pos j d)) (h.p1 d k)) (h.b1 k)) l

/-- A finite point with itself: the first layer is its bias. -/
theorem delta_self (i : Fin 10000) (l : Fin 128) : delta N (N.pos i) (N.pos i) l = delta0 N l := by
  unfold delta delta0
  congr 1
  funext k
  have : ∀ d, (N.pos i d - N.pos i d) * N.p1 d k = 0 := fun d => by
    obtain ⟨a, ha⟩ := h.pos i d
    rw [ha, ← EReal.coe_sub, sub_self, EReal.coe_zero, zero_mul]
  simp only [this, Finset.sum_const_zero, zero_add]

theorem lin_real {w : Fin 128 → Fin 128 → EReal} (hw : ∀ i j, IsReal (w i j)) (j : Fin 10000) (l : Fin 128) :
    IsReal (lin (N.x j) w l) := .sum _ fun k => .mul (h.x j k) (hw k l)

theorem logit_real {d s e : Fin 128 → EReal} (hd : ∀ k, IsReal (d k)) (hs : ∀ k, IsReal (s k)) (he : ∀ k, IsReal (e k))
    (l : Fin 128) : IsReal (logit N d s e l) :=
  .add (.sum _ fun k => .mul (.add (.sub (hd k) (hs k)) (he k)) (h.wa k l)) (h.ba l)

theorem aloop_real (j : Fin 10000) (l : Fin 128) : IsReal (aloop N j l) :=
  logit_real h (fun k => lin_real h h.wd j k) (fun k => lin_real h h.ws j k) (fun k => second_real h h.b1 k) l

theorem vloop_real (j : Fin 10000) (l : Fin 128) : IsReal (vloop N j l) :=
  .add (lin_real h h.wl j l) (second_real h h.b1 l)

theorem aslot_real (r : Fin 10000) (s : Fin 64) (l : Fin 128) : IsReal (aslot N r s l) :=
  logit_real h (fun k => lin_real h h.wd _ k) (fun k => lin_real h h.ws _ k) (fun k => delta_real h _ _ k) l

theorem vslot_real (r : Fin 10000) (s : Fin 64) (l : Fin 128) : IsReal (vslot N r s l) :=
  .add (lin_real h h.wl _ l) (delta_real h _ _ l)

omit h in
/-- The squared distance does not depend on the order of the two points. -/
theorem sq_comm {a b : EReal} (ha : IsReal a) (hb : IsReal b) : (a - b) * (a - b) = (b - a) * (b - a) := by
  obtain ⟨x, rfl⟩ := ha; obtain ⟨y, rfl⟩ := hb
  simp only [← EReal.coe_sub, ← EReal.coe_mul]
  congr 1; ring

end Cert.Net

end
-- ==== Proof.Edges.lean ====
/-
  The values the third and the fourth call store, element by element, in the layer's terms.
-/
module

public import proofs.«01_k».proof.Proof.Net

@[expose] public section

set_option maxRecDepth 16384

noncomputable section

namespace Cert.KernelIdeal.Edges

open Cert.KernelIdeal Cert.KernelIdeal.Gen Cert.Rank Cert.Net
open Idealize.ShloMosaic Idealize.ShloMosaic.Pointwise

/-- The constants of the position term and the logits as the calls read them. -/
structure Reads (N : Args) (v5 : FVec Ideal S6x64 .f32) (v7 : FVec Ideal S1x64 .f32)
    (v13 : FVec Ideal S64x128 .f32) (v15 : FVec Ideal S1x128 .f32) (v27 : FVec Ideal S128x128 .f32) (v29 : FVec Ideal S1x128 .f32) : Prop where
  p1 : ∀ d k, v5 (ix2 d k) = N.p1 d k
  b1 : ∀ k, v7 (ix2 0 k) = N.b1 k
  p2 : ∀ k l, v13 (ix2 k l) = N.p2 k l
  b2 : ∀ l, v15 (ix2 0 l) = N.b2 l
  wa : ∀ k l, v27 (ix2 k l) = N.wa k l
  ba : ∀ l, v29 (ix2 0 l) = N.ba l

variable {N : Args}

/-- The fourth call's position term. -/
theorem delta_at {v5 v7 v13 v15 v27 v29} (R : Reads N v5 v7 v13 v15 v27 v29) (v0 v2 : FVec Ideal S2048x6 .f32) (a b : Fin 6 → EReal)
    (i : Fin 2048) (h0 : ∀ d, v0 (ix2 i d) = a d) (h2 : ∀ d, v2 (ix2 i d) = b d) (l : Fin 128) :
    k3_pay2 (F := Ideal) v0 v2 v5 v7 v13 v15 (ix2 i l) = delta N a b l := by
  pointwise [k3_pay2]
  simp only [h0, h2, R.p1, R.b1, R.p2, R.b2]
  rfl

/-- The fourth call's logits. -/
theorem logit_at {v5 v7 v13 v15 v27 v29} (R : Reads N v5 v7 v13 v15 v27 v29) (v0 v2 : FVec Ideal S2048x6 .f32)
    (v21 v23 : FVec Ideal S2048x128 .f32) (a b : Fin 6 → EReal) (d s : Fin 128 → EReal)
    (i : Fin 2048) (h0 : ∀ d, v0 (ix2 i d) = a d) (h2 : ∀ d, v2 (ix2 i d) = b d)
    (h21 : ∀ l, v21 (ix2 i l) = d l) (h23 : ∀ l, v23 (ix2 i l) = s l) (l : Fin 128) :
    k3_pay3 (F := Ideal) v0 v2 v5 v7 v13 v15 v21 v23 v27 v29 (ix2 i l) = logit N d s (delta N a b) l := by
  have hd := delta_at R v0 v2 a b i h0 h2
  unfold k3_pay3
  generalize k3_pay2 (F := Ideal) v0 v2 v5 v7 v13 v15 = e at hd ⊢
  pointwise
  simp only [hd, h21, h23, R.wa, R.ba]
  rfl

/-- The test of a mask value. -/
theorem half_lt {α : Type} (m : Prop) (x y : α) [Decidable (Ideal.ofBits FTy.f32 1056964608#32 < ind m)] [Decidable m] :
    (if Ideal.ofBits FTy.f32 1056964608#32 < ind m then x else y) = if m then x else y := by
  have h : Ideal.ofBits FTy.f32 1056964608#32 < ind m ↔ m := by
    have hb : Ideal.ofBits FTy.f32 1056964608#32 = ((1 / 2 : ℝ) : EReal) := Const.half_bits
    rw [hb]
    unfold ind
    split
    · rename_i hm
      refine ⟨fun _ => hm, fun _ => ?_⟩
      rw [← EReal.coe_one]; exact EReal.coe_lt_coe_iff.2 (by norm_num)
    · rename_i hm
      refine ⟨fun c => absurd c ?_, fun c => absurd c hm⟩
      rw [← EReal.coe_zero, not_lt]; exact EReal.coe_le_coe_iff.2 (by norm_num)
  exact if_congr h rfl rfl

/-- Row `a` of a block of the fourth call: the softmax of its 64 slots and its own loop. -/
theorem soft_at (v20 v32 : FVec Ideal S2048x128 .f32) (v33 : FVec Ideal S2048x1 .f32) (v43 : FVec Ideal S32x128 .f32)
    (v57 : FVec Ideal S2048x128 .f32) (v64 : FVec Ideal S32x128 .f32) (a : Fin 32) (l : Fin 128)
    (m : Fin 64 → Prop) (A V : Fin 64 → EReal) (al vl : EReal)
    (hm : ∀ s : Fin 64, v33 (ix2 ⟨a.val * 64 + s.val, by omega⟩ 0) = ind (m s))
    (hA : ∀ s : Fin 64, v32 (ix2 ⟨a.val * 64 + s.val, by omega⟩ l) = A s)
    (hV : ∀ s : Fin 64, v57 (ix2 ⟨a.val * 64 + s.val, by omega⟩ l) + v20 (ix2 ⟨a.val * 64 + s.val, by omega⟩ l) = V s)
    (ha : v43 (ix2 a l) = al) (hv : v64 (ix2 a l) = vl) :
    k3_pay1 (F := Ideal) v20 v32 v33 v43 v57 v64 (ix2 a l) = soft m A V al vl := by
  pointwise [k3_pay1]
  have hb : Ideal.ofBits FTy.f32 4286578688#32 = ⊥ := Const.bot_bits
  have hk : ∀ s : Fin 64, (if Ideal.ofBits FTy.f32 1056964608#32 < v33 (ix2 ⟨a.val * 64 + s.val, by omega⟩ 0) then
      v32 (ix2 ⟨a.val * 64 + s.val, by omega⟩ l) else Ideal.ofBits FTy.f32 4048155338#32) = keep (m s) (A s) := fun s => by
    rw [hm, hA]
    classical
    exact (half_lt (m s) (A s) _).trans (by unfold keep; congr)
  simp only [hk]
  simp only [hm, hV, ha, hv, hb]
  rfl

/-- The three products of the third call. -/
theorem xv_at (v0 : FVec Ideal S1000x128 .f32) (w : FVec Ideal S128x128 .f32) (x : Fin 128 → EReal) (W : Fin 128 → Fin 128 → EReal)
    (i : Fin 1000) (h0 : ∀ k, v0 (ix2 i k) = x k) (hw : ∀ k l, w (ix2 k l) = W k l) (l : Fin 128) :
    k2_pay2 (F := Ideal) v0 w (ix2 i l) = lin x W l := by
  pointwise [k2_pay2]; simp only [h0, hw]; rfl

theorem src_at (v0 : FVec Ideal S1000x128 .f32) (w : FVec Ideal S128x128 .f32) (x : Fin 128 → EReal) (W : Fin 128 → Fin 128 → EReal)
    (i : Fin 1000) (h0 : ∀ k, v0 (ix2 i k) = x k) (hw : ∀ k l, w (ix2 k l) = W k l) (l : Fin 128) :
    k2_pay3 (F := Ideal) v0 w (ix2 i l) = lin x W l := by
  pointwise [k2_pay3]; simp only [h0, hw]; rfl

theorem dst_at (v0 : FVec Ideal S1000x128 .f32) (w : FVec Ideal S128x128 .f32) (x : Fin 128 → EReal) (W : Fin 128 → Fin 128 → EReal)
    (i : Fin 1000) (h0 : ∀ k, v0 (ix2 i k) = x k) (hw : ∀ k l, w (ix2 k l) = W k l) (l : Fin 128) :
    k2_pay4 (F := Ideal) v0 w (ix2 i l) = lin x W l := by
  pointwise [k2_pay4]; simp only [h0, hw]; rfl

/-- The third call's position term of a point with itself. -/
theorem delta0_at (v7 : FVec Ideal S1x64 .f32) (v11 : FVec Ideal S64x128 .f32) (v13 : FVec Ideal S1x128 .f32)
    (h7 : ∀ k, v7 (ix2 0 k) = N.b1 k) (h11 : ∀ k l, v11 (ix2 k l) = N.p2 k l) (h13 : ∀ l, v13 (ix2 0 l) = N.b2 l) (l : Fin 128) :
    k2_pay5 (F := Ideal) v7 v11 v13 (ix2 0 l) = delta0 N l := by
  pointwise [k2_pay5]; simp only [h7, h11, h13]; rfl

/-- The third call's logits of the own loops. -/
theorem aloop_at (v0 : FVec Ideal S1000x128 .f32) (v3 v5 : FVec Ideal S128x128 .f32) (v7 : FVec Ideal S1x64 .f32)
    (v11 : FVec Ideal S64x128 .f32) (v13 : FVec Ideal S1x128 .f32) (v21 : FVec Ideal S128x128 .f32) (v23 : FVec Ideal S1x128 .f32)
    (j : Fin 10000) (i : Fin 1000) (h0 : ∀ k, v0 (ix2 i k) = N.x j k)
    (h3 : ∀ k l, v3 (ix2 k l) = N.ws k l) (h5 : ∀ k l, v5 (ix2 k l) = N.wd k l)
    (h7 : ∀ k, v7 (ix2 0 k) = N.b1 k) (h11 : ∀ k l, v11 (ix2 k l) = N.p2 k l) (h13 : ∀ l, v13 (ix2 0 l) = N.b2 l)
    (h21 : ∀ k l, v21 (ix2 k l) = N.wa k l) (h23 : ∀ l, v23 (ix2 0 l) = N.ba l) (l : Fin 128) :
    k2_pay6 (F := Ideal) v0 v3 v5 v7 v11 v13 v21 v23 (ix2 i l) = aloop N j l := by
  have hs := src_at v0 v3 _ _ i h0 h3
  have hd := dst_at v0 v5 _ _ i h0 h5
  have he := delta0_at v7 v11 v13 h7 h11 h13
  unfold k2_pay6
  generalize k2_pay4 (F := Ideal) v0 v5 = d at hd ⊢
  generalize k2_pay3 (F := Ideal) v0 v3 = s at hs ⊢
  generalize k2_pay5 (F := Ideal) v7 v11 v13 = e at he ⊢
  pointwise
  simp only [hs, hd, he, h21, h23]
  rfl

/-- The third call's values of the own loops. -/
theorem vloop_at (v0 : FVec Ideal S1000x128 .f32) (w : FVec Ideal S128x128 .f32) (v7 : FVec Ideal S1x64 .f32)
    (v11 : FVec Ideal S64x128 .f32) (v13 : FVec Ideal S1x128 .f32)
    (j : Fin 10000) (i : Fin 1000) (h0 : ∀ k, v0 (ix2 i k) = N.x j k) (hw : ∀ k l, w (ix2 k l) = N.wl k l)
    (h7 : ∀ k, v7 (ix2 0 k) = N.b1 k) (h11 : ∀ k l, v11 (ix2 k l) = N.p2 k l) (h13 : ∀ l, v13 (ix2 0 l) = N.b2 l) (l : Fin 128) :
    k2_pay1 (F := Ideal) (k2_pay2 v0 w) (k2_pay5 v7 v11 v13) (ix2 i l) = vloop N j l := by
  have hx := xv_at v0 w _ _ i h0 hw
  have he := delta0_at v7 v11 v13 h7 h11 h13
  generalize k2_pay2 (F := Ideal) v0 w = s at hx ⊢
  generalize k2_pay5 (F := Ideal) v7 v11 v13 = e at he ⊢
  pointwise [k2_pay1]
  rw [hx, he]
  rfl

end Cert.KernelIdeal.Edges

end
-- ==== Proof.Region3.lean ====
/-
  What the fourth call leaves in its result array: every row the softmax of its slots and its own loop.
-/
module

public import proofs.«01_k».proof.Proof.Gen.KernelIdeal.Frame
public import proofs.«01_k».proof.Proof.Edges
public import Idealize.ShloMosaic.Lib.Pipeline.ValueKit

@[expose] public section

set_option maxRecDepth 16384

noncomputable section

namespace Cert.KernelIdeal.Region3

open Cert.KernelIdeal Cert.KernelIdeal.Gen Cert.Rank Cert.Net
open Idealize.ShloMosaic Idealize.ShloMosaic.TcCoe Idealize.ShloMosaic.Pointwise

/-- The grid's points walk the rows in blocks. -/
theorem step0 : ∀ t : Fin cfg3.N, win3_0.index t (0 : Fin 2) = t.val ∧ win3_0.index t (1 : Fin 2) = 0 :=
  (by decide +kernel : ∀ t : Fin grid3.N, _)
theorem step1 : ∀ t : Fin cfg3.N, win3_1.index t (0 : Fin 2) = t.val ∧ win3_1.index t (1 : Fin 2) = 0 :=
  (by decide +kernel : ∀ t : Fin grid3.N, _)
theorem step2 : ∀ t : Fin cfg3.N, win3_2.index t (0 : Fin 2) = t.val ∧ win3_2.index t (1 : Fin 2) = 0 :=
  (by decide +kernel : ∀ t : Fin grid3.N, _)
theorem step3 : ∀ t : Fin cfg3.N, win3_3.index t (0 : Fin 2) = t.val ∧ win3_3.index t (1 : Fin 2) = 0 :=
  (by decide +kernel : ∀ t : Fin grid3.N, _)
theorem step4 : ∀ t : Fin cfg3.N, win3_4.index t (0 : Fin 2) = t.val ∧ win3_4.index t (1 : Fin 2) = 0 :=
  (by decide +kernel : ∀ t : Fin grid3.N, _)
theorem step5 : ∀ t : Fin cfg3.N, win3_5.index t (0 : Fin 2) = t.val ∧ win3_5.index t (1 : Fin 2) = 0 :=
  (by decide +kernel : ∀ t : Fin grid3.N, _)
theorem step6 : ∀ t : Fin cfg3.N, win3_6.index t (0 : Fin 2) = t.val ∧ win3_6.index t (1 : Fin 2) = 0 :=
  (by decide +kernel : ∀ t : Fin grid3.N, _)
theorem step7 : ∀ t : Fin cfg3.N, win3_7.index t (0 : Fin 2) = t.val ∧ win3_7.index t (1 : Fin 2) = 0 :=
  (by decide +kernel : ∀ t : Fin grid3.N, _)
theorem step14 : ∀ t : Fin cfg3.N, win3_14.index t (0 : Fin 2) = t.val ∧ win3_14.index t (1 : Fin 2) = 0 :=
  (by decide +kernel : ∀ t : Fin grid3.N, _)
/-- The constants stay in place. -/
theorem stay8 : ∀ t : Fin cfg3.N, win3_8.index t (0 : Fin 2) = 0 ∧ win3_8.index t (1 : Fin 2) = 0 :=
  (by decide +kernel : ∀ t : Fin grid3.N, _)
theorem stay9 : ∀ t : Fin cfg3.N, win3_9.index t (0 : Fin 2) = 0 ∧ win3_9.index t (1 : Fin 2) = 0 :=
  (by decide +kernel : ∀ t : Fin grid3.N, _)
theorem stay10 : ∀ t : Fin cfg3.N, win3_10.index t (0 : Fin 2) = 0 ∧ win3_10.index t (1 : Fin 2) = 0 :=
  (by decide +kernel : ∀ t : Fin grid3.N, _)
theorem stay11 : ∀ t : Fin cfg3.N, win3_11.index t (0 : Fin 2) = 0 ∧ win3_11.index t (1 : Fin 2) = 0 :=
  (by decide +kernel : ∀ t : Fin grid3.N, _)
theorem stay12 : ∀ t : Fin cfg3.N, win3_12.index t (0 : Fin 2) = 0 ∧ win3_12.index t (1 : Fin 2) = 0 :=
  (by decide +kernel : ∀ t : Fin grid3.N, _)
theorem stay13 : ∀ t : Fin cfg3.N, win3_13.index t (0 : Fin 2) = 0 ∧ win3_13.index t (1 : Fin 2) = 0 :=
  (by decide +kernel : ∀ t : Fin grid3.N, _)

variable (V : (c : Dev nD) → (b : Ref sig .tc) → Buf (Elt Ideal) ((c.tc : Thread nD τ).loc b)) (c : Dev nD)

theorem points (t : Fin cfg3.N) : t.val < 80 := by have := t.isLt; have h : cfg3.N = 80 := by decide
                                                   omega

/-- The row of the result that row `a` of point `t`'s block is. -/
def row (t : Fin cfg3.N) (a : Fin 32) : Fin 2560 := ⟨32 * t.val + a.val, by have := points t; omega⟩

/-- The edge in slot `s` of row `r`. -/
def slotAt (r : Fin 2560) (s : Fin 64) : Fin 163840 := ⟨64 * r.val + s.val, by omega⟩

theorem emb14 (t : Fin cfg3.N) (i : Fin 32) (l : Fin 128) : ((cfg3.win 14).blk t).view.emb (ix2 i l) = ix2 (row t i) l := by
  obtain ⟨e0, e1⟩ := step14 t
  funext a; apply Fin.ext
  match a with
  | ⟨0, _⟩ => show win3_14.index t (0 : Fin 2) * 32 + 1 * i.val = 32 * t.val + i.val; omega
  | ⟨1, _⟩ => show win3_14.index t (1 : Fin 2) * 128 + 1 * l.val = l.val; omega

/-- The edges' blocks at a slot. -/
theorem in0 (t : Fin cfg3.N) (a : Fin 32) (s : Fin 64) (k : Fin 6) :
    iblk3 V c 0 t (ix2 (⟨a.val * 64 + s.val, by omega⟩ : Fin 2048) k) = V c main_v18 (ix2 (slotAt (row t a) s) k) := by
  obtain ⟨e0, e1⟩ := step0 t
  refine congrArg (V c main_v18) (funext fun x => Fin.ext ?_)
  match x with
  | ⟨0, _⟩ => show win3_0.index t (0 : Fin 2) * 2048 + 1 * (a.val * 64 + s.val) = 64 * (32 * t.val + a.val) + s.val; omega
  | ⟨1, _⟩ => show win3_0.index t (1 : Fin 2) * 6 + 1 * k.val = k.val; omega
theorem in1 (t : Fin cfg3.N) (a : Fin 32) (s : Fin 64) (k : Fin 6) :
    iblk3 V c 1 t (ix2 (⟨a.val * 64 + s.val, by omega⟩ : Fin 2048) k) = V c main_v12 (ix2 (slotAt (row t a) s) k) := by
  obtain ⟨e0, e1⟩ := step1 t
  refine congrArg (V c main_v12) (funext fun x => Fin.ext ?_)
  match x with
  | ⟨0, _⟩ => show win3_1.index t (0 : Fin 2) * 2048 + 1 * (a.val * 64 + s.val) = 64 * (32 * t.val + a.val) + s.val; omega
  | ⟨1, _⟩ => show win3_1.index t (1 : Fin 2) * 6 + 1 * k.val = k.val; omega
theorem in2 (t : Fin cfg3.N) (a : Fin 32) (s : Fin 64) (k : Fin 128) :
    iblk3 V c 2 t (ix2 (⟨a.val * 64 + s.val, by omega⟩ : Fin 2048) k) = V c main_v22 (ix2 (slotAt (row t a) s) k) := by
  obtain ⟨e0, e1⟩ := step2 t
  refine congrArg (V c main_v22) (funext fun x => Fin.ext ?_)
  match x with
  | ⟨0, _⟩ => show win3_2.index t (0 : Fin 2) * 2048 + 1 * (a.val * 64 + s.val) = 64 * (32 * t.val + a.val) + s.val; omega
  | ⟨1, _⟩ => show win3_2.index t (1 : Fin 2) * 128 + 1 * k.val = k.val; omega
theorem in3 (t : Fin cfg3.N) (a : Fin 32) (s : Fin 64) (k : Fin 128) :
    iblk3 V c 3 t (ix2 (⟨a.val * 64 + s.val, by omega⟩ : Fin 2048) k) = V c main_v13 (ix2 (slotAt (row t a) s) k) := by
  obtain ⟨e0, e1⟩ := step3 t
  refine congrArg (V c main_v13) (funext fun x => Fin.ext ?_)
  match x with
  | ⟨0, _⟩ => show win3_3.index t (0 : Fin 2) * 2048 + 1 * (a.val * 64 + s.val) = 64 * (32 * t.val + a.val) + s.val; omega
  | ⟨1, _⟩ => show win3_3.index t (1 : Fin 2) * 128 + 1 * k.val = k.val; omega
theorem in4 (t : Fin cfg3.N) (a : Fin 32) (s : Fin 64) (k : Fin 128) :
    iblk3 V c 4 t (ix2 (⟨a.val * 64 + s.val, by omega⟩ : Fin 2048) k) = V c main_v14 (ix2 (slotAt (row t a) s) k) := by
  obtain ⟨e0, e1⟩ := step4 t
  refine congrArg (V c main_v14) (funext fun x => Fin.ext ?_)
  match x with
  | ⟨0, _⟩ => show win3_4.index t (0 : Fin 2) * 2048 + 1 * (a.val * 64 + s.val) = 64 * (32 * t.val + a.val) + s.val; omega
  | ⟨1, _⟩ => show win3_4.index t (1 : Fin 2) * 128 + 1 * k.val = k.val; omega
theorem in5 (t : Fin cfg3.N) (a : Fin 32) (s : Fin 64) (k : Fin 1) :
    iblk3 V c 5 t (ix2 (⟨a.val * 64 + s.val, by omega⟩ : Fin 2048) k) = V c main_v11 (ix2 (slotAt (row t a) s) k) := by
  obtain ⟨e0, e1⟩ := step5 t
  refine congrArg (V c main_v11) (funext fun x => Fin.ext ?_)
  match x with
  | ⟨0, _⟩ => show win3_5.index t (0 : Fin 2) * 2048 + 1 * (a.val * 64 + s.val) = 64 * (32 * t.val + a.val) + s.val; omega
  | ⟨1, _⟩ => show win3_5.index t (1 : Fin 2) * 1 + 1 * k.val = k.val; omega
/-- The rows' blocks. -/
theorem in6 (t : Fin cfg3.N) (a : Fin 32) (k : Fin 128) : iblk3 V c 6 t (ix2 a k) = V c main_v24 (ix2 (row t a) k) := by
  obtain ⟨e0, e1⟩ := step6 t
  refine congrArg (V c main_v24) (funext fun x => Fin.ext ?_)
  match x with
  | ⟨0, _⟩ => show win3_6.index t (0 : Fin 2) * 32 + 1 * a.val = 32 * t.val + a.val; omega
  | ⟨1, _⟩ => show win3_6.index t (1 : Fin 2) * 128 + 1 * k.val = k.val; omega
theorem in7 (t : Fin cfg3.N) (a : Fin 32) (k : Fin 128) : iblk3 V c 7 t (ix2 a k) = V c main_v26 (ix2 (row t a) k) := by
  obtain ⟨e0, e1⟩ := step7 t
  refine congrArg (V c main_v26) (funext fun x => Fin.ext ?_)
  match x with
  | ⟨0, _⟩ => show win3_7.index t (0 : Fin 2) * 32 + 1 * a.val = 32 * t.val + a.val; omega
  | ⟨1, _⟩ => show win3_7.index t (1 : Fin 2) * 128 + 1 * k.val = k.val; omega
/-- The constants. -/
theorem in8 (t : Fin cfg3.N) (i : Fin 6) (k : Fin 64) : iblk3 V c 8 t (ix2 i k) = V c main_arg6 (ix2 i k) := by
  obtain ⟨e0, e1⟩ := stay8 t
  refine congrArg (V c main_arg6) (funext fun x => Fin.ext ?_)
  match x with
  | ⟨0, _⟩ => show win3_8.index t (0 : Fin 2) * 6 + 1 * i.val = i.val; omega
  | ⟨1, _⟩ => show win3_8.index t (1 : Fin 2) * 64 + 1 * k.val = k.val; omega
theorem in9 (t : Fin cfg3.N) (i : Fin 1) (k : Fin 64) : iblk3 V c 9 t (ix2 i k) = V c main_v4 (ix2 i k) := by
  obtain ⟨e0, e1⟩ := stay9 t
  refine congrArg (V c main_v4) (funext fun x => Fin.ext ?_)
  match x with
  | ⟨0, _⟩ => show win3_9.index t (0 : Fin 2) * 1 + 1 * i.val = i.val; omega
  | ⟨1, _⟩ => show win3_9.index t (1 : Fin 2) * 64 + 1 * k.val = k.val; omega
theorem in10 (t : Fin cfg3.N) (i : Fin 64) (k : Fin 128) : iblk3 V c 10 t (ix2 i k) = V c main_arg8 (ix2 i k) := by
  obtain ⟨e0, e1⟩ := stay10 t
  refine congrArg (V c main_arg8) (funext fun x => Fin.ext ?_)
  match x with
  | ⟨0, _⟩ => show win3_10.index t (0 : Fin 2) * 64 + 1 * i.val = i.val; omega
  | ⟨1, _⟩ => show win3_10.index t (1 : Fin 2) * 128 + 1 * k.val = k.val; omega
theorem in11 (t : Fin cfg3.N) (i : Fin 1) (k : Fin 128) : iblk3 V c 11 t (ix2 i k) = V c main_v5 (ix2 i k) := by
  obtain ⟨e0, e1⟩ := stay11 t
  refine congrArg (V c main_v5) (funext fun x => Fin.ext ?_)
  match x with
  | ⟨0, _⟩ => show win3_11.index t (0 : Fin 2) * 1 + 1 * i.val = i.val; omega
  | ⟨1, _⟩ => show win3_11.index t (1 : Fin 2) * 128 + 1 * k.val = k.val; omega
theorem in12 (t : Fin cfg3.N) (i : Fin 128) (k : Fin 128) : iblk3 V c 12 t (ix2 i k) = V c main_arg10 (ix2 i k) := by
  obtain ⟨e0, e1⟩ := stay12 t
  refine congrArg (V c main_arg10) (funext fun x => Fin.ext ?_)
  match x with
  | ⟨0, _⟩ => show win3_12.index t (0 : Fin 2) * 128 + 1 * i.val = i.val; omega
  | ⟨1, _⟩ => show win3_12.index t (1 : Fin 2) * 128 + 1 * k.val = k.val; omega
theorem in13 (t : Fin cfg3.N) (i : Fin 1) (k : Fin 128) : iblk3 V c 13 t (ix2 i k) = V c main_v6 (ix2 i k) := by
  obtain ⟨e0, e1⟩ := stay13 t
  refine congrArg (V c main_v6) (funext fun x => Fin.ext ?_)
  match x with
  | ⟨0, _⟩ => show win3_13.index t (0 : Fin 2) * 1 + 1 * i.val = i.val; omega
  | ⟨1, _⟩ => show win3_13.index t (1 : Fin 2) * 128 + 1 * k.val = k.val; omega

/-- What the call finds in its operands: a row's position and destination row, an edge's position, source row, value and
    mask, and a row's own loop. -/
structure Entry (N : Args) (P : Fin 2560 → Fin 6 → EReal) (Q : Fin 2560 → Fin 64 → Fin 6 → EReal)
    (D : Fin 2560 → Fin 128 → EReal) (S X : Fin 2560 → Fin 64 → Fin 128 → EReal) (m : Fin 2560 → Fin 64 → Prop)
    (A L : Fin 2560 → Fin 128 → EReal) : Prop where
  pr : ∀ r s d, V c main_v18 (ix2 (slotAt r s) d) = P r d
  pc : ∀ r s d, V c main_v12 (ix2 (slotAt r s) d) = Q r s d
  ar : ∀ r s l, V c main_v22 (ix2 (slotAt r s) l) = D r l
  ac : ∀ r s l, V c main_v13 (ix2 (slotAt r s) l) = S r s l
  xc : ∀ r s l, V c main_v14 (ix2 (slotAt r s) l) = X r s l
  msk : ∀ r s, V c main_v11 (ix2 (slotAt r s) 0) = ind (m r s)
  al : ∀ r l, V c main_v24 (ix2 r l) = A r l
  vl : ∀ r l, V c main_v26 (ix2 r l) = L r l
  p1 : ∀ j k, V c main_arg6 (ix2 j k) = N.p1 j k
  b1 : ∀ k, V c main_v4 (ix2 0 k) = N.b1 k
  p2 : ∀ j k, V c main_arg8 (ix2 j k) = N.p2 j k
  b2 : ∀ k, V c main_v5 (ix2 0 k) = N.b2 k
  wa : ∀ j k, V c main_arg10 (ix2 j k) = N.wa j k
  ba : ∀ k, V c main_v6 (ix2 0 k) = N.ba k

variable {V c} {N : Args} {P : Fin 2560 → Fin 6 → EReal} {Q : Fin 2560 → Fin 64 → Fin 6 → EReal}
    {D : Fin 2560 → Fin 128 → EReal} {S X : Fin 2560 → Fin 64 → Fin 128 → EReal} {m : Fin 2560 → Fin 64 → Prop}
    {A L : Fin 2560 → Fin 128 → EReal}

/-- The constants' blocks. -/
theorem R (E : Entry V c N P Q D S X m A L) (t : Fin cfg3.N) :
    Edges.Reads N (iblk3 V c 8 t) (iblk3 V c 9 t) (iblk3 V c 10 t) (iblk3 V c 11 t) (iblk3 V c 12 t) (iblk3 V c 13 t) :=
  ⟨fun j k => (in8 V c t j k).trans (E.p1 j k), fun k => (in9 V c t 0 k).trans (E.b1 k),
    fun j k => (in10 V c t j k).trans (E.p2 j k), fun k => (in11 V c t 0 k).trans (E.b2 k),
    fun j k => (in12 V c t j k).trans (E.wa j k), fun k => (in13 V c t 0 k).trans (E.ba k)⟩

omit V c in
/-- Row `a` of a block of the result. -/
theorem block_at {x8 x9 x10 x11 x12 x13} (R : Edges.Reads N x8 x9 x10 x11 x12 x13) (a : Fin 32) (l : Fin 128)
    (x0 x1 : FVec Ideal S2048x6 .f32) (x2 x3 x4 : FVec Ideal S2048x128 .f32) (x5 : FVec Ideal S2048x1 .f32) (x6 x7 : FVec Ideal S32x128 .f32)
    (P : Fin 6 → EReal) (Q : Fin 64 → Fin 6 → EReal) (D : Fin 128 → EReal) (S X : Fin 64 → Fin 128 → EReal) (m : Fin 64 → Prop)
    (A L : EReal) (h0 : ∀ (s : Fin 64) d, x0 (ix2 ⟨a.val * 64 + s.val, by omega⟩ d) = P d)
    (h1 : ∀ (s : Fin 64) d, x1 (ix2 ⟨a.val * 64 + s.val, by omega⟩ d) = Q s d)
    (h2 : ∀ (s : Fin 64) l, x2 (ix2 ⟨a.val * 64 + s.val, by omega⟩ l) = D l)
    (h3 : ∀ (s : Fin 64) l, x3 (ix2 ⟨a.val * 64 + s.val, by omega⟩ l) = S s l)
    (h4 : ∀ (s : Fin 64) l, x4 (ix2 ⟨a.val * 64 + s.val, by omega⟩ l) = X s l)
    (h5 : ∀ (s : Fin 64), x5 (ix2 ⟨a.val * 64 + s.val, by omega⟩ 0) = ind (m s))
    (h6 : x6 (ix2 a l) = A) (h7 : x7 (ix2 a l) = L) :
    k3_pay1 (F := Ideal) (k3_pay2 x0 x1 x8 x9 x10 x11) (k3_pay3 x0 x1 x8 x9 x10 x11 x2 x3 x12 x13) x5 x6 x4 x7 (ix2 a l)
      = soft m (fun s => logit N D (S s) (delta N P (Q s)) l) (fun s => X s l + delta N P (Q s) l) A L := by
  have hd := fun s : Fin 64 => Edges.delta_at R x0 x1 P (Q s) ⟨a.val * 64 + s.val, by omega⟩ (h0 s) (h1 s) l
  have hl := fun s : Fin 64 => Edges.logit_at R x0 x1 x2 x3 P (Q s) D (S s) ⟨a.val * 64 + s.val, by omega⟩ (h0 s) (h1 s) (h2 s) (h3 s) l
  generalize k3_pay2 (F := Ideal) x0 x1 x8 x9 x10 x11 = v20 at hd ⊢
  generalize k3_pay3 (F := Ideal) x0 x1 x8 x9 x10 x11 x2 x3 x12 x13 = v32 at hl ⊢
  exact Edges.soft_at v20 v32 x5 x6 x4 x7 a l m _ _ A L h5 hl (fun s => congrArg₂ (· + ·) (h4 s l) (hd s)) h6 h7

set_option maxHeartbeats 2000000 in
/-- The result, row by row. -/
theorem arr14 (E : Entry V c N P Q D S X m A L) : (dat3 (F := Ideal) V c).arrAt 14 cfg3.N = fun i =>
    soft (m (i 0)) (fun s => logit N (D (i 0)) (S (i 0) s) (delta N (P (i 0)) (Q (i 0) s)) (i 1))
      (fun s => X (i 0) s (i 1) + delta N (P (i 0)) (Q (i 0) s) (i 1)) (A (i 0) (i 1)) (L (i 0) (i 1)) := by
  refine (dat3 V c).arrAt_eq_of_covers 14 _ (by decide +kernel) fun t hf y => ?_
  obtain ⟨i, l, rfl⟩ : ∃ (i : Fin 32) (l : Fin 128), y = ix2 i l := ⟨_, _, eq_ix2 y⟩
  rw [emb14]
  blk_simp
  rw [after3_14]
  frame_out
  exact block_at (R E t) i l _ _ _ _ _ _ _ _ (P (row t i)) (Q (row t i)) (D (row t i)) (S (row t i)) (X (row t i)) (m (row t i)) _ _
    (fun s d => (in0 V c t i s d).trans (E.pr _ _ _)) (fun s d => (in1 V c t i s d).trans (E.pc _ _ _))
    (fun s l => (in2 V c t i s l).trans (E.ar _ _ _)) (fun s l => (in3 V c t i s l).trans (E.ac _ _ _))
    (fun s l => (in4 V c t i s l).trans (E.xc _ _ _)) (fun s => (in5 V c t i s 0).trans (E.msk _ _))
    ((in6 V c t i l).trans (E.al _ _)) ((in7 V c t i l).trans (E.vl _ _))

end Cert.KernelIdeal.Region3

end
-- ==== Proof.KernelHost.lean ====
/-
  What the operations between the kernel's calls leave, element by element, from any contents before them.
-/
module

public import proofs.«01_k».proof.Proof.Takes
public import proofs.«01_k».proof.Proof.Region3

@[expose] public section

set_option maxRecDepth 16384

noncomputable section

namespace Cert.KernelIdeal.Host

open Cert.KernelIdeal Cert.KernelIdeal.Gen Cert.Rank Cert.KernelIdeal.Region3
open Idealize.ShloMosaic Idealize.ShloMosaic.TcCoe Idealize.ShloMosaic.Pointwise Idealize.ShloMosaic.Tactic

variable (V : Valuation τ sig (Elt Ideal))

theorem slot_div (r : Fin 2560) (s : Fin 64) : (slotAt r s).val / 64 = r.val := by
  have := s.isLt
  show (64 * r.val + s.val) / 64 = r.val
  omega

theorem slot_mod (r : Fin 2560) (s : Fin 64) : (slotAt r s).val % 64 = s.val := by
  have := s.isLt
  show (64 * r.val + s.val) % 64 = s.val
  omega

/-- The points, transposed. -/
theorem v0_at (d : Fin 6) (j : Fin 10000) :
    StableHlo.after hostOps0 V (Proc.devRef .tc main_v0) (ix2 d j) = V (Proc.devRef .tc main_arg1) (ix2 j d) := by
  after_reads_at

/-- The queries, below the padding. -/
theorem v2_at (d : Fin 6) (r : Fin 2560) (h : r.val < 2500) :
    StableHlo.after hostOps1_1 V (Proc.devRef .tc main_v2) (ix2 d r) = V (Proc.devRef .tc main_v1) (ix2 d ⟨r.val, h⟩) := by
  after_reads_at
  rw [dif_pos h]

/-- A bias, as a row. -/
theorem v4_at (k : Fin 64) :
    StableHlo.after hostOps2 V (Proc.devRef .tc main_v4) (ix2 0 k) = V (Proc.devRef .tc main_arg7) (ix1 k) := by
  after_reads_at

/-- A bias, as a row. -/
theorem v5_at (k : Fin 128) :
    StableHlo.after hostOps2 V (Proc.devRef .tc main_v5) (ix2 0 k) = V (Proc.devRef .tc main_arg9) (ix1 k) := by
  after_reads_at

/-- A bias, as a row. -/
theorem v6_at (k : Fin 128) :
    StableHlo.after hostOps2 V (Proc.devRef .tc main_v6) (ix2 0 k) = V (Proc.devRef .tc main_arg11) (ix1 k) := by
  after_reads_at

/-- The columns of the slots, row after row. -/
theorem v9_at (r : Fin 2560) (s : Fin 64) :
    StableHlo.after hostOps3 V (Proc.devRef .tc main_v9) (ix1 (slotAt r s)) = V (Proc.devRef .tc main_v3_0) (ix2 s r) := by
  after_reads_at
  congr 1
  simp only [slot_div, slot_mod]

/-- The masks of the slots, row after row. -/
theorem v11_at (r : Fin 2560) (s : Fin 64) :
    StableHlo.after hostOps3 V (Proc.devRef .tc main_v11) (ix2 (slotAt r s) 0) = V (Proc.devRef .tc main_v3_1) (ix2 s r) := by
  after_reads_at
  congr 1
  simp only [slot_div, slot_mod]

/-- The first points. -/
theorem v15_at (r : Fin 2500) (d : Fin 6) :
    StableHlo.after hostOps3_4 V (Proc.devRef .tc main_v15) (ix2 r d) = V (Proc.devRef .tc main_arg1) (ix2 ⟨r.val, by omega⟩ d) := by
  after_reads_at

/-- The first points, below the padding. -/
theorem v16_at (r : Fin 2560) (d : Fin 6) (h : r.val < 2500) :
    StableHlo.after hostOps3_5 V (Proc.devRef .tc main_v16) (ix2 r d) = V (Proc.devRef .tc main_v15) (ix2 ⟨r.val, h⟩ d) := by
  after_reads_at
  rw [dif_pos h]

/-- The first points, each repeated over its slots. -/
theorem v18_at (r : Fin 2560) (s : Fin 64) (d : Fin 6) :
    StableHlo.after hostOps3_6 V (Proc.devRef .tc main_v18) (ix2 (slotAt r s) d) = V (Proc.devRef .tc main_v16) (ix2 r d) := by
  after_reads_at
  congr 1
  simp only [slot_div, slot_mod]

/-- The first destination rows. -/
theorem v19_at (r : Fin 2500) (l : Fin 128) :
    StableHlo.after hostOps3_6 V (Proc.devRef .tc main_v19) (ix2 r l) = V (Proc.devRef .tc main_v7_2) (ix2 ⟨r.val, by omega⟩ l) := by
  after_reads_at

/-- The first destination rows, below the padding. -/
theorem v20_at (r : Fin 2560) (l : Fin 128) (h : r.val < 2500) :
    StableHlo.after hostOps3_7 V (Proc.devRef .tc main_v20) (ix2 r l) = V (Proc.devRef .tc main_v19) (ix2 ⟨r.val, h⟩ l) := by
  after_reads_at
  rw [dif_pos h]

/-- The first destination rows, each repeated over its slots. -/
theorem v22_at (r : Fin 2560) (s : Fin 64) (l : Fin 128) :
    StableHlo.after hostOps3_8 V (Proc.devRef .tc main_v22) (ix2 (slotAt r s) l) = V (Proc.devRef .tc main_v20) (ix2 r l) := by
  after_reads_at
  congr 1
  simp only [slot_div, slot_mod]

/-- The first own logits. -/
theorem v23_at (r : Fin 2500) (l : Fin 128) :
    StableHlo.after hostOps3_8 V (Proc.devRef .tc main_v23) (ix2 r l) = V (Proc.devRef .tc main_v7_3) (ix2 ⟨r.val, by omega⟩ l) := by
  after_reads_at

/-- The first own logits, below the padding. -/
theorem v24_at (r : Fin 2560) (l : Fin 128) (h : r.val < 2500) :
    StableHlo.after hostOps3_9 V (Proc.devRef .tc main_v24) (ix2 r l) = V (Proc.devRef .tc main_v23) (ix2 ⟨r.val, h⟩ l) := by
  after_reads_at
  rw [dif_pos h]

/-- The first own values. -/
theorem v25_at (r : Fin 2500) (l : Fin 128) :
    StableHlo.after hostOps3_10 V (Proc.devRef .tc main_v25) (ix2 r l) = V (Proc.devRef .tc main_v7_4) (ix2 ⟨r.val, by omega⟩ l) := by
  after_reads_at

/-- The first own values, below the padding. -/
theorem v26_at (r : Fin 2560) (l : Fin 128) (h : r.val < 2500) :
    StableHlo.after hostOps3_11 V (Proc.devRef .tc main_v26) (ix2 r l) = V (Proc.devRef .tc main_v25) (ix2 ⟨r.val, h⟩ l) := by
  after_reads_at
  rw [dif_pos h]

/-- The result: the fourth call's rows, then the own values of the rest. -/
theorem v30_at (r : Fin 10000) (l : Fin 128) :
    StableHlo.after hostOps4 V (Proc.devRef .tc main_v30) (ix2 r l) =
      if h : r.val < 2500 then V (Proc.devRef .tc main_v27) (ix2 ⟨r.val, by omega⟩ l) else V (Proc.devRef .tc main_v7_4) (ix2 r l) := by
  after_reads_at
  split
  · rfl
  · congr 2
    exact Fin.ext (by show 2500 + (r.val - 2500) = r.val; omega)

end Cert.KernelIdeal.Host

end
-- ==== Proof.Region0.lean ====
/-
  What the first call leaves in its result array: the points taken.
-/
module

public import proofs.«01_k».proof.Proof.Gen.KernelIdeal.Frame
public import proofs.«01_k».proof.Proof.Fps
public import Idealize.ShloMosaic.Lib.Pipeline.ValueKit

@[expose] public section

set_option maxRecDepth 16384

noncomputable section

namespace Cert.KernelIdeal.Region0

open Cert.KernelIdeal Cert.KernelIdeal.Gen Cert.Rank
open Idealize.ShloMosaic Idealize.ShloMosaic.TcCoe Idealize.ShloMosaic.Pointwise

theorem hz : (![0, 0] : Fin 2 → Nat) = fun _ => 0 := funext fun a => by fin_cases a <;> rfl

theorem stay0 : ∀ t : Fin cfg0.N, win0_0.index t (0 : Fin 2) = 0 ∧ win0_0.index t (1 : Fin 2) = 0 :=
  (by decide +kernel : ∀ t : Fin grid0.N, _)
theorem stay1 : ∀ t : Fin cfg0.N, win0_1.index t (0 : Fin 2) = 0 ∧ win0_1.index t (1 : Fin 2) = 0 :=
  (by decide +kernel : ∀ t : Fin grid0.N, _)

variable (V : (c : Dev nD) → (b : Ref sig .tc) → Buf (Elt Ideal) ((c.tc : Thread nD τ).loc b)) (c : Dev nD)

theorem emb1 (t : Fin cfg0.N) (j : S6x2500.Idx) : ((cfg0.win 1).blk t).view.emb j = j := by
  obtain ⟨e0, e1⟩ := stay1 t
  funext a; apply Fin.ext
  match a with
  | ⟨0, _⟩ => show win0_1.index t (0 : Fin 2) * 6 + 1 * (j 0).val = (j 0).val; omega
  | ⟨1, _⟩ => show win0_1.index t (1 : Fin 2) * 2500 + 1 * (j 1).val = (j 1).val; omega

theorem in0 (t : Fin cfg0.N) : iblk0 V c 0 t = V c main_v0 := by
  obtain ⟨e0, e1⟩ := stay0 t
  funext j
  refine congrArg (V c main_v0) (funext fun a => Fin.ext ?_)
  match a with
  | ⟨0, _⟩ => show win0_0.index t (0 : Fin 2) * 6 + 1 * (j 0).val = (j 0).val; omega
  | ⟨1, _⟩ => show win0_0.index t (1 : Fin 2) * 10000 + 1 * (j 1).val = (j 1).val; omega

/-- The run's one store holds the loop's second result. -/
theorem out_eq (arg0 : Memref sig .tc .vmem S6x10000 .f32) (h0 : arg0.IsWhole)
    (arg1 : Memref sig .tc .vmem S6x2500 .f32) (h1 : arg1.IsWhole) (x0 : Vec Ideal S6x10000 .f32) :
    out0_A_1 (F := Ideal) c arg0 h0 arg1 h1 x0 = (Scf.fold (Fps.trip x0) (k0_pay3, k0_pay2 x0, 0#32)).2.1 := by
  unfold out0_A_1
  unfold kernelRun0_A
  dsimp only
  sl_unfold_words
  rw [View.read_writes_junk_eq_canon, View.canon_unit_zero hz, View.readAt_eq_ld, h0.read_unread, View.ld_unit_zero hz]

/-- The points taken. -/
theorem arr1 : (dat0 (F := Ideal) V c).arrAt 1 cfg0.N = Fps.result (V c main_v0) := by
  refine (dat0 V c).arrAt_eq_of_covers 1 _ (by decide +kernel) fun t hf y => ?_
  rw [emb1]
  blk_simp
  rw [after0_1]
  unfold outsAt0
  rw [out_eq, in0]
  exact congrFun (Fps.fold_eq _) y

end Cert.KernelIdeal.Region0

end
-- ==== Proof.Region1.lean ====
/-
  What the second call leaves in its two result arrays: the lists of neighbours and their masks.
-/
module

public import proofs.«01_k».proof.Proof.Gen.KernelIdeal.Frame
public import proofs.«01_k».proof.Proof.Radius
public import Idealize.ShloMosaic.Lib.Pipeline.ValueKit

@[expose] public section

set_option maxRecDepth 16384

noncomputable section

namespace Cert.KernelIdeal.Region1

open Cert.KernelIdeal Cert.KernelIdeal.Gen Cert.Rank
open Idealize.ShloMosaic Idealize.ShloMosaic.TcCoe Idealize.ShloMosaic.Pointwise

theorem hz : (![0, 0] : Fin 2 → Nat) = fun _ => 0 := funext fun a => by fin_cases a <;> rfl

/-- The squared distances of a block's queries from the points, as the body computes them from its two blocks. -/
def start (x0 : Vec Ideal S6x128 .f32) (x1 : Vec Ideal S10000x6 .f32) : FVec Ideal S10000x128 .f32 :=
  k1_pay1
    (k1_pay9 (View.ld x1 (Rect.unit ![0, 0] ![10000, 1] inb_S10000x6_S10000x1_0_0))
      (View.ld x0 (Rect.unit ![0, 0] ![1, 128] inb_S6x128_S1x128_0_0))
      (View.ld x1 (Rect.unit ![0, 1] ![10000, 1] inb_S10000x6_S10000x1_0_1))
      (View.ld x0 (Rect.unit ![1, 0] ![1, 128] inb_S6x128_S1x128_1_0))
      (View.ld x1 (Rect.unit ![0, 2] ![10000, 1] inb_S10000x6_S10000x1_0_2))
      (View.ld x0 (Rect.unit ![2, 0] ![1, 128] inb_S6x128_S1x128_2_0))
      (View.ld x1 (Rect.unit ![0, 3] ![10000, 1] inb_S10000x6_S10000x1_0_3))
      (View.ld x0 (Rect.unit ![3, 0] ![1, 128] inb_S6x128_S1x128_3_0)))
    (k1_pay10 (View.ld x1 (Rect.unit ![0, 4] ![10000, 1] inb_S10000x6_S10000x1_0_4)))
    (k1_pay11 (View.ld x0 (Rect.unit ![4, 0] ![1, 128] inb_S6x128_S1x128_4_0)))
    (View.ld x1 (Rect.unit ![0, 5] ![10000, 1] inb_S10000x6_S10000x1_0_5))
    (View.ld x0 (Rect.unit ![5, 0] ![1, 128] inb_S6x128_S1x128_5_0))

/-- A column of the points. -/
theorem col_at (x1 : Vec Ideal S10000x6 .f32) (k : Fin 6) (inb) (j : Fin 10000) :
    View.ld x1 (Rect.unit (s := S10000x6) ![0, k.val] ![10000, 1] inb) (ix2 j (0 : Fin 1)) = x1 (ix2 j k) :=
  View.ld_unit_apply_of x1 _ _ _ _ _ fun a => by
    match a with
    | ⟨0, _⟩ => show j.val = 0 + j.val; omega
    | ⟨1, _⟩ => show k.val = k.val + 0; omega

/-- A row of the queries. -/
theorem row_at (x0 : Vec Ideal S6x128 .f32) (k : Fin 6) (inb) (l : Fin 128) :
    View.ld x0 (Rect.unit (s := S6x128) ![k.val, 0] ![1, 128] inb) (ix2 (0 : Fin 1) l) = x0 (ix2 k l) :=
  View.ld_unit_apply_of x0 _ _ _ _ _ fun a => by
    match a with
    | ⟨0, _⟩ => show k.val = k.val + 0; omega
    | ⟨1, _⟩ => show l.val = 0 + l.val; omega

theorem start_at (x0 : Vec Ideal S6x128 .f32) (x1 : Vec Ideal S10000x6 .f32) (p : Fin 10000 → Fin 6 → EReal)
    (q : Fin 128 → Fin 6 → EReal) (hp : ∀ j d, x1 (ix2 j d) = p j d) (hq : ∀ l d, x0 (ix2 d l) = q l d) (j : Fin 10000) (l : Fin 128) :
    start x0 x1 (ix2 j l) = near p (q l) j :=
  Radius.pay1_at p q _ _ _ _ _ _ _ _ _ _ _ _
    (fun j => (col_at x1 0 _ j).trans (hp j 0)) (fun j => (col_at x1 1 _ j).trans (hp j 1)) (fun j => (col_at x1 2 _ j).trans (hp j 2))
    (fun j => (col_at x1 3 _ j).trans (hp j 3)) (fun j => (col_at x1 4 _ j).trans (hp j 4)) (fun j => (col_at x1 5 _ j).trans (hp j 5))
    (fun l => (row_at x0 0 _ l).trans (hq l 0)) (fun l => (row_at x0 1 _ l).trans (hq l 1)) (fun l => (row_at x0 2 _ l).trans (hq l 2))
    (fun l => (row_at x0 3 _ l).trans (hq l 3)) (fun l => (row_at x0 4 _ l).trans (hq l 4)) (fun l => (row_at x0 5 _ l).trans (hq l 5)) j l

/-- The run's first store holds the loop's second result, -/
theorem out2_eq (c : Dev nD) (i : grid1.Coords) (arg1 : Memref sig .tc .vmem S6x128 .f32) (h1 : arg1.IsWhole)
    (arg2 : Memref sig .tc .vmem S10000x6 .f32) (h2 : arg2.IsWhole) (arg3 : Memref sig .tc .vmem S64x128 .i32) (h3 : arg3.IsWhole)
    (arg4 : Memref sig .tc .vmem S64x128 .f32) (h4 : arg4.IsWhole) (x0 : Vec Ideal S6x128 .f32) (x1 : Vec Ideal S10000x6 .f32) :
    out1_A_2 (F := Ideal) c i arg1 h1 arg2 h2 arg3 h3 arg4 h4 x0 x1
      = (Scf.fold (Radius.trip (BitVec.ofNat 32 (i 0).val)) (start x0 x1, k1_pay2, k1_pay3 (F := Ideal))).2.1 := by
  unfold out1_A_2 kernelRun1_A start
  dsimp only
  sl_unfold_words
  rw [View.read_writes_junk_eq_canon, View.canon_unit_zero hz]
  simp only [View.readAt_eq_ld, h1.read_unread, h2.read_unread]

/-- and its second store the third. -/
theorem out3_eq (c : Dev nD) (i : grid1.Coords) (arg1 : Memref sig .tc .vmem S6x128 .f32) (h1 : arg1.IsWhole)
    (arg2 : Memref sig .tc .vmem S10000x6 .f32) (h2 : arg2.IsWhole) (arg3 : Memref sig .tc .vmem S64x128 .i32) (h3 : arg3.IsWhole)
    (arg4 : Memref sig .tc .vmem S64x128 .f32) (h4 : arg4.IsWhole) (x0 : Vec Ideal S6x128 .f32) (x1 : Vec Ideal S10000x6 .f32) :
    out1_A_3 (F := Ideal) c i arg1 h1 arg2 h2 arg3 h3 arg4 h4 x0 x1
      = (Scf.fold (Radius.trip (BitVec.ofNat 32 (i 0).val)) (start x0 x1, k1_pay2, k1_pay3 (F := Ideal))).2.2 := by
  unfold out1_A_3 kernelRun1_A start
  dsimp only
  sl_unfold_words
  rw [View.read_writes_junk_eq_canon, View.canon_unit_zero hz]
  simp only [View.readAt_eq_ld, h1.read_unread, h2.read_unread]

theorem step0 : ∀ t : Fin cfg1.N, win1_0.index t (0 : Fin 2) = 0 ∧ win1_0.index t (1 : Fin 2) = t.val :=
  (by decide +kernel : ∀ t : Fin grid1.N, _)
theorem stay1 : ∀ t : Fin cfg1.N, win1_1.index t (0 : Fin 2) = 0 ∧ win1_1.index t (1 : Fin 2) = 0 :=
  (by decide +kernel : ∀ t : Fin grid1.N, _)
theorem step2 : ∀ t : Fin cfg1.N, win1_2.index t (0 : Fin 2) = 0 ∧ win1_2.index t (1 : Fin 2) = t.val :=
  (by decide +kernel : ∀ t : Fin grid1.N, _)
theorem step3 : ∀ t : Fin cfg1.N, win1_3.index t (0 : Fin 2) = 0 ∧ win1_3.index t (1 : Fin 2) = t.val :=
  (by decide +kernel : ∀ t : Fin grid1.N, _)
theorem coord : ∀ t : Fin cfg1.N, (cfg1.grid.coords t 0).val = t.val :=
  (by decide +kernel : ∀ t : Fin grid1.N, _)

variable (V : (c : Dev nD) → (b : Ref sig .tc) → Buf (Elt Ideal) ((c.tc : Thread nD τ).loc b)) (c : Dev nD)

theorem points (t : Fin cfg1.N) : t.val < 20 := by have := t.isLt; have h : cfg1.N = 20 := by decide
                                                   omega

/-- The query that column `l` of point `t`'s blocks is. -/
def row (t : Fin cfg1.N) (l : Fin 128) : Fin 2560 := ⟨128 * t.val + l.val, by have := points t; omega⟩

theorem emb2 (t : Fin cfg1.N) (s : Fin 64) (l : Fin 128) : ((cfg1.win 2).blk t).view.emb (ix2 s l) = ix2 s (row t l) := by
  obtain ⟨e0, e1⟩ := step2 t
  funext a; apply Fin.ext
  match a with
  | ⟨0, _⟩ => show win1_2.index t (0 : Fin 2) * 64 + 1 * s.val = s.val; omega
  | ⟨1, _⟩ => show win1_2.index t (1 : Fin 2) * 128 + 1 * l.val = 128 * t.val + l.val; omega
theorem emb3 (t : Fin cfg1.N) (s : Fin 64) (l : Fin 128) : ((cfg1.win 3).blk t).view.emb (ix2 s l) = ix2 s (row t l) := by
  obtain ⟨e0, e1⟩ := step3 t
  funext a; apply Fin.ext
  match a with
  | ⟨0, _⟩ => show win1_3.index t (0 : Fin 2) * 64 + 1 * s.val = s.val; omega
  | ⟨1, _⟩ => show win1_3.index t (1 : Fin 2) * 128 + 1 * l.val = 128 * t.val + l.val; omega

theorem in0 (t : Fin cfg1.N) (d : Fin 6) (l : Fin 128) : iblk1 V c 0 t (ix2 d l) = V c main_v2 (ix2 d (row t l)) := by
  obtain ⟨e0, e1⟩ := step0 t
  refine congrArg (V c main_v2) (funext fun a => Fin.ext ?_)
  match a with
  | ⟨0, _⟩ => show win1_0.index t (0 : Fin 2) * 6 + 1 * d.val = d.val; omega
  | ⟨1, _⟩ => show win1_0.index t (1 : Fin 2) * 128 + 1 * l.val = 128 * t.val + l.val; omega
theorem in1 (t : Fin cfg1.N) (j : Fin 10000) (d : Fin 6) : iblk1 V c 1 t (ix2 j d) = V c main_arg1 (ix2 j d) := by
  obtain ⟨e0, e1⟩ := stay1 t
  refine congrArg (V c main_arg1) (funext fun a => Fin.ext ?_)
  match a with
  | ⟨0, _⟩ => show win1_1.index t (0 : Fin 2) * 10000 + 1 * j.val = j.val; omega
  | ⟨1, _⟩ => show win1_1.index t (1 : Fin 2) * 6 + 1 * d.val = d.val; omega

/-- A block's first query number. -/
theorem first (t : Fin cfg1.N) (l : Fin 128) :
    IntOp.addi (Scalar.muli (BitVec.ofNat 32 (cfg1.grid.coords t 0).val) 128#32) (word l.val) = word (row t l).val := by
  rw [coord]
  have h := points t
  unfold word row IntOp.addi Scalar.muli IntOp.muli
  apply BitVec.eq_of_toNat_eq
  simp [BitVec.toNat_add, BitVec.toNat_mul]
  omega

variable {V c} (p : Fin 10000 → Fin 6 → EReal) (q : Fin 2560 → Fin 6 → EReal) (hp : ∀ j d, V c main_arg1 (ix2 j d) = p j d)
  (hq : ∀ r d, V c main_v2 (ix2 d r) = q r d)
include hp hq

/-- The loop's results at a point. -/
theorem block_at (t : Fin cfg1.N) :
    (∀ (s : Fin 64) (l : Fin 128), (Scf.fold (Radius.trip (BitVec.ofNat 32 (cfg1.grid.coords t 0).val))
      (start (iblk1 V c 0 t) (iblk1 V c 1 t), k1_pay2, k1_pay3 (F := Ideal))).2.1 (ix2 s l) = word (nbr p (q (row t l)) s).val)
    ∧ ∀ (s : Fin 64) (l : Fin 128), (Scf.fold (Radius.trip (BitVec.ofNat 32 (cfg1.grid.coords t 0).val))
      (start (iblk1 V c 0 t) (iblk1 V c 1 t), k1_pay2, k1_pay3 (F := Ideal))).2.2 (ix2 s l)
        = Radius.maskv p (q (row t l)) (row t l).val s :=
  Radius.fold_spec (BitVec.ofNat 32 (cfg1.grid.coords t 0).val) p (fun l => q (row t l)) (fun l => (row t l).val)
    (fun l => by have := (row t l).isLt; omega) (first t) (start (iblk1 V c 0 t) (iblk1 V c 1 t))
    (start_at _ _ p (fun l => q (row t l)) (fun j d => (in1 V c t j d).trans (hp j d)) (fun l d => (in0 V c t d l).trans (hq _ d)))

/-- The neighbours. -/
theorem arr2 : (dat1 (F := Ideal) V c).arrAt 2 cfg1.N = fun i => word (nbr p (q (i 1)) (i 0)).val := by
  refine (dat1 V c).arrAt_eq_of_covers 2 _ (by decide +kernel) fun t hf y => ?_
  obtain ⟨s, l, rfl⟩ : ∃ (s : Fin 64) (l : Fin 128), y = ix2 s l := ⟨_, _, eq_ix2 y⟩
  rw [emb2]
  blk_simp
  rw [after1_2]
  unfold outsAt1
  dsimp only
  rw [out2_eq]
  exact (block_at p q hp hq t).1 s l

/-- The masks. -/
theorem arr3 : (dat1 (F := Ideal) V c).arrAt 3 cfg1.N = fun i => Radius.maskv p (q (i 1)) (i 1).val (i 0) := by
  refine (dat1 V c).arrAt_eq_of_covers 3 _ (by decide +kernel) fun t hf y => ?_
  obtain ⟨s, l, rfl⟩ : ∃ (s : Fin 64) (l : Fin 128), y = ix2 s l := ⟨_, _, eq_ix2 y⟩
  rw [emb3]
  blk_simp
  rw [after1_3]
  unfold outsAt1
  dsimp only
  rw [out3_eq]
  exact (block_at p q hp hq t).2 s l

end Cert.KernelIdeal.Region1

end
-- ==== Proof.Region2.lean ====
/-
  What the third call leaves in its five result arrays, element by element.
-/
module

public import proofs.«01_k».proof.Proof.Gen.KernelIdeal.Frame
public import proofs.«01_k».proof.Proof.Edges
public import Idealize.ShloMosaic.Lib.Pipeline.ValueKit

@[expose] public section

set_option maxRecDepth 16384

noncomputable section

namespace Cert.KernelIdeal.Region2

open Cert.KernelIdeal Cert.KernelIdeal.Gen Cert.Rank Cert.Net
open Idealize.ShloMosaic Idealize.ShloMosaic.TcCoe Idealize.ShloMosaic.Pointwise

/-- The grid's points walk the rows in blocks of 1000. -/
theorem step0 : ∀ t : Fin cfg2.N, win2_0.index t (0 : Fin 2) = t.val ∧ win2_0.index t (1 : Fin 2) = 0 :=
  (by decide +kernel : ∀ t : Fin grid2.N, _)
theorem step9 : ∀ t : Fin cfg2.N, win2_9.index t (0 : Fin 2) = t.val ∧ win2_9.index t (1 : Fin 2) = 0 :=
  (by decide +kernel : ∀ t : Fin grid2.N, _)
theorem step10 : ∀ t : Fin cfg2.N, win2_10.index t (0 : Fin 2) = t.val ∧ win2_10.index t (1 : Fin 2) = 0 :=
  (by decide +kernel : ∀ t : Fin grid2.N, _)
theorem step11 : ∀ t : Fin cfg2.N, win2_11.index t (0 : Fin 2) = t.val ∧ win2_11.index t (1 : Fin 2) = 0 :=
  (by decide +kernel : ∀ t : Fin grid2.N, _)
theorem step12 : ∀ t : Fin cfg2.N, win2_12.index t (0 : Fin 2) = t.val ∧ win2_12.index t (1 : Fin 2) = 0 :=
  (by decide +kernel : ∀ t : Fin grid2.N, _)
theorem step13 : ∀ t : Fin cfg2.N, win2_13.index t (0 : Fin 2) = t.val ∧ win2_13.index t (1 : Fin 2) = 0 :=
  (by decide +kernel : ∀ t : Fin grid2.N, _)
/-- The constants stay in place. -/
theorem stay1 : ∀ t : Fin cfg2.N, win2_1.index t (0 : Fin 2) = 0 ∧ win2_1.index t (1 : Fin 2) = 0 :=
  (by decide +kernel : ∀ t : Fin grid2.N, _)
theorem stay2 : ∀ t : Fin cfg2.N, win2_2.index t (0 : Fin 2) = 0 ∧ win2_2.index t (1 : Fin 2) = 0 :=
  (by decide +kernel : ∀ t : Fin grid2.N, _)
theorem stay3 : ∀ t : Fin cfg2.N, win2_3.index t (0 : Fin 2) = 0 ∧ win2_3.index t (1 : Fin 2) = 0 :=
  (by decide +kernel : ∀ t : Fin grid2.N, _)
theorem stay4 : ∀ t : Fin cfg2.N, win2_4.index t (0 : Fin 2) = 0 ∧ win2_4.index t (1 : Fin 2) = 0 :=
  (by decide +kernel : ∀ t : Fin grid2.N, _)
theorem stay5 : ∀ t : Fin cfg2.N, win2_5.index t (0 : Fin 2) = 0 ∧ win2_5.index t (1 : Fin 2) = 0 :=
  (by decide +kernel : ∀ t : Fin grid2.N, _)
theorem stay6 : ∀ t : Fin cfg2.N, win2_6.index t (0 : Fin 2) = 0 ∧ win2_6.index t (1 : Fin 2) = 0 :=
  (by decide +kernel : ∀ t : Fin grid2.N, _)
theorem stay7 : ∀ t : Fin cfg2.N, win2_7.index t (0 : Fin 2) = 0 ∧ win2_7.index t (1 : Fin 2) = 0 :=
  (by decide +kernel : ∀ t : Fin grid2.N, _)
theorem stay8 : ∀ t : Fin cfg2.N, win2_8.index t (0 : Fin 2) = 0 ∧ win2_8.index t (1 : Fin 2) = 0 :=
  (by decide +kernel : ∀ t : Fin grid2.N, _)

variable (V : (c : Dev nD) → (b : Ref sig .tc) → Buf (Elt Ideal) ((c.tc : Thread nD τ).loc b)) (c : Dev nD)

/-- The row of the arrays that row `i` of point `t`'s blocks is. -/
def row (t : Fin cfg2.N) (i : Fin 1000) : Fin 10000 :=
  ⟨1000 * t.val + i.val, by have := t.isLt; have h : cfg2.N = 10 := by decide
                            omega⟩

theorem emb9 (t : Fin cfg2.N) (i : Fin 1000) (l : Fin 128) : ((cfg2.win 9).blk t).view.emb (ix2 i l) = ix2 (row t i) l := by
  obtain ⟨e0, e1⟩ := step9 t
  funext a; apply Fin.ext
  match a with
  | ⟨0, _⟩ => show win2_9.index t (0 : Fin 2) * 1000 + 1 * i.val = 1000 * t.val + i.val; omega
  | ⟨1, _⟩ => show win2_9.index t (1 : Fin 2) * 128 + 1 * l.val = l.val; omega
theorem emb10 (t : Fin cfg2.N) (i : Fin 1000) (l : Fin 128) : ((cfg2.win 10).blk t).view.emb (ix2 i l) = ix2 (row t i) l := by
  obtain ⟨e0, e1⟩ := step10 t
  funext a; apply Fin.ext
  match a with
  | ⟨0, _⟩ => show win2_10.index t (0 : Fin 2) * 1000 + 1 * i.val = 1000 * t.val + i.val; omega
  | ⟨1, _⟩ => show win2_10.index t (1 : Fin 2) * 128 + 1 * l.val = l.val; omega
theorem emb11 (t : Fin cfg2.N) (i : Fin 1000) (l : Fin 128) : ((cfg2.win 11).blk t).view.emb (ix2 i l) = ix2 (row t i) l := by
  obtain ⟨e0, e1⟩ := step11 t
  funext a; apply Fin.ext
  match a with
  | ⟨0, _⟩ => show win2_11.index t (0 : Fin 2) * 1000 + 1 * i.val = 1000 * t.val + i.val; omega
  | ⟨1, _⟩ => show win2_11.index t (1 : Fin 2) * 128 + 1 * l.val = l.val; omega
theorem emb12 (t : Fin cfg2.N) (i : Fin 1000) (l : Fin 128) : ((cfg2.win 12).blk t).view.emb (ix2 i l) = ix2 (row t i) l := by
  obtain ⟨e0, e1⟩ := step12 t
  funext a; apply Fin.ext
  match a with
  | ⟨0, _⟩ => show win2_12.index t (0 : Fin 2) * 1000 + 1 * i.val = 1000 * t.val + i.val; omega
  | ⟨1, _⟩ => show win2_12.index t (1 : Fin 2) * 128 + 1 * l.val = l.val; omega
theorem emb13 (t : Fin cfg2.N) (i : Fin 1000) (l : Fin 128) : ((cfg2.win 13).blk t).view.emb (ix2 i l) = ix2 (row t i) l := by
  obtain ⟨e0, e1⟩ := step13 t
  funext a; apply Fin.ext
  match a with
  | ⟨0, _⟩ => show win2_13.index t (0 : Fin 2) * 1000 + 1 * i.val = 1000 * t.val + i.val; omega
  | ⟨1, _⟩ => show win2_13.index t (1 : Fin 2) * 128 + 1 * l.val = l.val; omega

/-- The features' block at a row. -/
theorem in0 (t : Fin cfg2.N) (i : Fin 1000) (k : Fin 128) : iblk2 V c 0 t (ix2 i k) = V c main_arg0 (ix2 (row t i) k) := by
  obtain ⟨e0, e1⟩ := step0 t
  refine congrArg (V c main_arg0) (funext fun a => Fin.ext ?_)
  match a with
  | ⟨0, _⟩ => show win2_0.index t (0 : Fin 2) * 1000 + 1 * i.val = 1000 * t.val + i.val; omega
  | ⟨1, _⟩ => show win2_0.index t (1 : Fin 2) * 128 + 1 * k.val = k.val; omega
theorem in1 (t : Fin cfg2.N) (i k : Fin 128) : iblk2 V c 1 t (ix2 i k) = V c main_arg3 (ix2 i k) := by
  obtain ⟨e0, e1⟩ := stay1 t
  refine congrArg (V c main_arg3) (funext fun a => Fin.ext ?_)
  match a with
  | ⟨0, _⟩ => show win2_1.index t (0 : Fin 2) * 128 + 1 * i.val = i.val; omega
  | ⟨1, _⟩ => show win2_1.index t (1 : Fin 2) * 128 + 1 * k.val = k.val; omega
theorem in2 (t : Fin cfg2.N) (i k : Fin 128) : iblk2 V c 2 t (ix2 i k) = V c main_arg4 (ix2 i k) := by
  obtain ⟨e0, e1⟩ := stay2 t
  refine congrArg (V c main_arg4) (funext fun a => Fin.ext ?_)
  match a with
  | ⟨0, _⟩ => show win2_2.index t (0 : Fin 2) * 128 + 1 * i.val = i.val; omega
  | ⟨1, _⟩ => show win2_2.index t (1 : Fin 2) * 128 + 1 * k.val = k.val; omega
theorem in3 (t : Fin cfg2.N) (i k : Fin 128) : iblk2 V c 3 t (ix2 i k) = V c main_arg5 (ix2 i k) := by
  obtain ⟨e0, e1⟩ := stay3 t
  refine congrArg (V c main_arg5) (funext fun a => Fin.ext ?_)
  match a with
  | ⟨0, _⟩ => show win2_3.index t (0 : Fin 2) * 128 + 1 * i.val = i.val; omega
  | ⟨1, _⟩ => show win2_3.index t (1 : Fin 2) * 128 + 1 * k.val = k.val; omega
theorem in4 (t : Fin cfg2.N) (i : Fin 1) (k : Fin 64) : iblk2 V c 4 t (ix2 i k) = V c main_v4 (ix2 i k) := by
  obtain ⟨e0, e1⟩ := stay4 t
  refine congrArg (V c main_v4) (funext fun a => Fin.ext ?_)
  match a with
  | ⟨0, _⟩ => show win2_4.index t (0 : Fin 2) * 1 + 1 * i.val = i.val; omega
  | ⟨1, _⟩ => show win2_4.index t (1 : Fin 2) * 64 + 1 * k.val = k.val; omega
theorem in5 (t : Fin cfg2.N) (i : Fin 64) (k : Fin 128) : iblk2 V c 5 t (ix2 i k) = V c main_arg8 (ix2 i k) := by
  obtain ⟨e0, e1⟩ := stay5 t
  refine congrArg (V c main_arg8) (funext fun a => Fin.ext ?_)
  match a with
  | ⟨0, _⟩ => show win2_5.index t (0 : Fin 2) * 64 + 1 * i.val = i.val; omega
  | ⟨1, _⟩ => show win2_5.index t (1 : Fin 2) * 128 + 1 * k.val = k.val; omega
theorem in6 (t : Fin cfg2.N) (i : Fin 1) (k : Fin 128) : iblk2 V c 6 t (ix2 i k) = V c main_v5 (ix2 i k) := by
  obtain ⟨e0, e1⟩ := stay6 t
  refine congrArg (V c main_v5) (funext fun a => Fin.ext ?_)
  match a with
  | ⟨0, _⟩ => show win2_6.index t (0 : Fin 2) * 1 + 1 * i.val = i.val; omega
  | ⟨1, _⟩ => show win2_6.index t (1 : Fin 2) * 128 + 1 * k.val = k.val; omega
theorem in7 (t : Fin cfg2.N) (i k : Fin 128) : iblk2 V c 7 t (ix2 i k) = V c main_arg10 (ix2 i k) := by
  obtain ⟨e0, e1⟩ := stay7 t
  refine congrArg (V c main_arg10) (funext fun a => Fin.ext ?_)
  match a with
  | ⟨0, _⟩ => show win2_7.index t (0 : Fin 2) * 128 + 1 * i.val = i.val; omega
  | ⟨1, _⟩ => show win2_7.index t (1 : Fin 2) * 128 + 1 * k.val = k.val; omega
theorem in8 (t : Fin cfg2.N) (i : Fin 1) (k : Fin 128) : iblk2 V c 8 t (ix2 i k) = V c main_v6 (ix2 i k) := by
  obtain ⟨e0, e1⟩ := stay8 t
  refine congrArg (V c main_v6) (funext fun a => Fin.ext ?_)
  match a with
  | ⟨0, _⟩ => show win2_8.index t (0 : Fin 2) * 1 + 1 * i.val = i.val; omega
  | ⟨1, _⟩ => show win2_8.index t (1 : Fin 2) * 128 + 1 * k.val = k.val; omega

/-- What the call finds in its operands. -/
structure Entry (N : Args) : Prop where
  x : ∀ j k, V c main_arg0 (ix2 j k) = N.x j k
  wl : ∀ j k, V c main_arg3 (ix2 j k) = N.wl j k
  ws : ∀ j k, V c main_arg4 (ix2 j k) = N.ws j k
  wd : ∀ j k, V c main_arg5 (ix2 j k) = N.wd j k
  b1 : ∀ k, V c main_v4 (ix2 0 k) = N.b1 k
  p2 : ∀ j k, V c main_arg8 (ix2 j k) = N.p2 j k
  b2 : ∀ k, V c main_v5 (ix2 0 k) = N.b2 k
  wa : ∀ j k, V c main_arg10 (ix2 j k) = N.wa j k
  ba : ∀ k, V c main_v6 (ix2 0 k) = N.ba k

variable {V c} {N : Args} (E : Entry V c N)
include E

/-- The values. -/
theorem arr9 : (dat2 (F := Ideal) V c).arrAt 9 cfg2.N = fun i => xv N (i 0) (i 1) := by
  refine (dat2 V c).arrAt_eq_of_covers 9 _ (by decide +kernel) fun t hf y => ?_
  obtain ⟨i, l, rfl⟩ : ∃ (i : Fin 1000) (l : Fin 128), y = ix2 i l := ⟨_, _, eq_ix2 y⟩
  rw [emb9]
  blk_simp
  rw [after2_9]
  frame_out
  exact Edges.xv_at _ _ (N.x (row t i)) N.wl i (fun k => (in0 V c t i k).trans (E.x _ _)) (fun k l => (in1 V c t k l).trans (E.wl _ _)) l

/-- The source rows. -/
theorem arr10 : (dat2 (F := Ideal) V c).arrAt 10 cfg2.N = fun i => src N (i 0) (i 1) := by
  refine (dat2 V c).arrAt_eq_of_covers 10 _ (by decide +kernel) fun t hf y => ?_
  obtain ⟨i, l, rfl⟩ : ∃ (i : Fin 1000) (l : Fin 128), y = ix2 i l := ⟨_, _, eq_ix2 y⟩
  rw [emb10]
  blk_simp
  rw [after2_10]
  frame_out
  exact Edges.src_at _ _ (N.x (row t i)) N.ws i (fun k => (in0 V c t i k).trans (E.x _ _)) (fun k l => (in2 V c t k l).trans (E.ws _ _)) l

/-- The destination rows. -/
theorem arr11 : (dat2 (F := Ideal) V c).arrAt 11 cfg2.N = fun i => dst N (i 0) (i 1) := by
  refine (dat2 V c).arrAt_eq_of_covers 11 _ (by decide +kernel) fun t hf y => ?_
  obtain ⟨i, l, rfl⟩ : ∃ (i : Fin 1000) (l : Fin 128), y = ix2 i l := ⟨_, _, eq_ix2 y⟩
  rw [emb11]
  blk_simp
  rw [after2_11]
  frame_out
  exact Edges.dst_at _ _ (N.x (row t i)) N.wd i (fun k => (in0 V c t i k).trans (E.x _ _)) (fun k l => (in3 V c t k l).trans (E.wd _ _)) l

/-- The logits of the own loops. -/
theorem arr12 : (dat2 (F := Ideal) V c).arrAt 12 cfg2.N = fun i => aloop N (i 0) (i 1) := by
  refine (dat2 V c).arrAt_eq_of_covers 12 _ (by decide +kernel) fun t hf y => ?_
  obtain ⟨i, l, rfl⟩ : ∃ (i : Fin 1000) (l : Fin 128), y = ix2 i l := ⟨_, _, eq_ix2 y⟩
  rw [emb12]
  blk_simp
  rw [after2_12]
  frame_out
  exact Edges.aloop_at _ _ _ _ _ _ _ _ (row t i) i (fun k => (in0 V c t i k).trans (E.x _ _))
    (fun k l => (in2 V c t k l).trans (E.ws _ _)) (fun k l => (in3 V c t k l).trans (E.wd _ _))
    (fun k => (in4 V c t 0 k).trans (E.b1 k)) (fun k l => (in5 V c t k l).trans (E.p2 _ _))
    (fun k => (in6 V c t 0 k).trans (E.b2 k)) (fun k l => (in7 V c t k l).trans (E.wa _ _))
    (fun k => (in8 V c t 0 k).trans (E.ba k)) l

/-- The values of the own loops. -/
theorem arr13 : (dat2 (F := Ideal) V c).arrAt 13 cfg2.N = fun i => vloop N (i 0) (i 1) := by
  refine (dat2 V c).arrAt_eq_of_covers 13 _ (by decide +kernel) fun t hf y => ?_
  obtain ⟨i, l, rfl⟩ : ∃ (i : Fin 1000) (l : Fin 128), y = ix2 i l := ⟨_, _, eq_ix2 y⟩
  rw [emb13]
  blk_simp
  rw [after2_13]
  frame_out
  exact Edges.vloop_at _ _ _ _ _ (row t i) i (fun k => (in0 V c t i k).trans (E.x _ _))
    (fun k l => (in1 V c t k l).trans (E.wl _ _)) (fun k => (in4 V c t 0 k).trans (E.b1 k))
    (fun k l => (in5 V c t k l).trans (E.p2 _ _)) (fun k => (in6 V c t 0 k).trans (E.b2 k)) l

end Cert.KernelIdeal.Region2

end
-- ==== Proof.KernelValue.lean ====
/-
  The kernel's result, as the attention of its arguments.
-/
module

public import proofs.«01_k».proof.Proof.KernelHost
public import proofs.«01_k».proof.Proof.Region0
public import proofs.«01_k».proof.Proof.Region1
public import proofs.«01_k».proof.Proof.Region2

@[expose] public section

set_option maxRecDepth 16384

noncomputable section

namespace Cert.KernelIdeal.Whole

open Cert.KernelIdeal Cert.KernelIdeal.Gen Cert.Rank Cert.Net Cert.KernelIdeal.Region3
open Idealize.ShloMosaic Idealize.ShloMosaic.TcCoe Idealize.ShloMosaic.Pointwise

variable (m : (ℓ : Loc nD τ sig) → Buf (Elt Ideal) ℓ) (ρ : Dev nD → PrngReg) (c : Dev nD)

/-- The arguments of the attention on one device. -/
def args : Args where
  x := fun j k => m ((c : Thread nD τ).loc main_arg0) (ix2 j k)
  pos := fun j k => m ((c : Thread nD τ).loc main_arg1) (ix2 j k)
  wl := fun j k => m ((c : Thread nD τ).loc main_arg3) (ix2 j k)
  ws := fun j k => m ((c : Thread nD τ).loc main_arg4) (ix2 j k)
  wd := fun j k => m ((c : Thread nD τ).loc main_arg5) (ix2 j k)
  p1 := fun j k => m ((c : Thread nD τ).loc main_arg6) (ix2 j k)
  b1 := fun k => m ((c : Thread nD τ).loc main_arg7) (ix1 k)
  p2 := fun j k => m ((c : Thread nD τ).loc main_arg8) (ix2 j k)
  b2 := fun k => m ((c : Thread nD τ).loc main_arg9) (ix1 k)
  wa := fun j k => m ((c : Thread nD τ).loc main_arg10) (ix2 j k)
  ba := fun k => m ((c : Thread nD τ).loc main_arg11) (ix1 k)

/-- The padded queries. -/
def q (r : Fin 2560) (d : Fin 6) : EReal := W4 m ρ c (Proc.devRef .tc main_v2) (ix2 d r)

/-- A query below the padding is its sampled point. -/
theorem q_of (r : Fin 2560) (h : r.val < 2500) : q m ρ c r = qry (args m c) r.val := by
  funext d
  unfold q
  rw [show W4 m ρ c (Proc.devRef .tc main_v2) (ix2 d r) = _ from Host.v2_at (W3 m ρ c) d r h,
    W3_of m ρ c main_v1 (by decide), show W2 m ρ c (Proc.devRef .tc main_v1) = _ from W2_arr m ρ c 1, Region0.arr1]
  have hp : Fps.pts (V1 m ρ c main_v0) = (args m c).pos := by
    funext j d
    exact Host.v0_at (W0 m ρ c) d j
  show Fps.pts (V1 m ρ c main_v0) (taken (Fps.pts (V1 m ρ c main_v0)) r.val) d = _
  rw [hp]
  rfl

theorem pos_at (j : Fin 10000) (d : Fin 6) : V4 m ρ c main_arg1 (ix2 j d) = (args m c).pos j d :=
  congrFun (W4_args m ρ c main_arg1 (by decide)) _

/-- The columns the second call leaves. -/
theorem cols (s : Fin 64) (r : Fin 2560) :
    W7 m ρ c (Proc.devRef .tc main_v3_0) (ix2 s r) = word (nbr (args m c).pos (q m ρ c r) s).val := by
  rw [W7_of m ρ c main_v3_0 (by decide), W6_of m ρ c main_v3_0 (by decide),
    show W5 m ρ c (Proc.devRef .tc main_v3_0) = _ from W5_arr m ρ c 2,
    Region1.arr2 (args m c).pos (q m ρ c) (pos_at m ρ c) (fun _ _ => rfl)]
  rfl

/-- The masks the second call leaves. -/
theorem masks (s : Fin 64) (r : Fin 2560) :
    W7 m ρ c (Proc.devRef .tc main_v3_1) (ix2 s r) = Radius.maskv (args m c).pos (q m ρ c r) r.val s := by
  rw [W7_of m ρ c main_v3_1 (by decide), W6_of m ρ c main_v3_1 (by decide),
    show W5 m ρ c (Proc.devRef .tc main_v3_1) = _ from W5_arr m ρ c 3,
    Region1.arr3 (args m c).pos (q m ρ c) (pos_at m ρ c) (fun _ _ => rfl)]
  rfl

/-- What the third call starts from. -/
theorem entry2 : Region2.Entry (V6 m ρ) c (args m c) where
  x j k := congrFun (W6_args m ρ c main_arg0 (by decide)) _
  wl j k := congrFun (W6_args m ρ c main_arg3 (by decide)) _
  ws j k := congrFun (W6_args m ρ c main_arg4 (by decide)) _
  wd j k := congrFun (W6_args m ρ c main_arg5 (by decide)) _
  p2 j k := congrFun (W6_args m ρ c main_arg8 (by decide)) _
  wa j k := congrFun (W6_args m ρ c main_arg10 (by decide)) _
  b1 k := (Host.v4_at (W5 m ρ c) k).trans (congrFun (W5_args m ρ c main_arg7 (by decide)) _)
  b2 k := (Host.v5_at (W5 m ρ c) k).trans (congrFun (W5_args m ρ c main_arg9 (by decide)) _)
  ba k := (Host.v6_at (W5 m ρ c) k).trans (congrFun (W5_args m ρ c main_arg11 (by decide)) _)

theorem xv_out : W7 m ρ c (Proc.devRef .tc main_v7_0) = fun i => xv (args m c) (i 0) (i 1) :=
  (W7_arr m ρ c 9).trans (Region2.arr9 (entry2 m ρ c))
theorem src_out : W7 m ρ c (Proc.devRef .tc main_v7_1) = fun i => src (args m c) (i 0) (i 1) :=
  (W7_arr m ρ c 10).trans (Region2.arr10 (entry2 m ρ c))
theorem dst_out : W7 m ρ c (Proc.devRef .tc main_v7_2) = fun i => dst (args m c) (i 0) (i 1) :=
  (W7_arr m ρ c 11).trans (Region2.arr11 (entry2 m ρ c))
theorem aloop_out : W7 m ρ c (Proc.devRef .tc main_v7_3) = fun i => aloop (args m c) (i 0) (i 1) :=
  (W7_arr m ρ c 12).trans (Region2.arr12 (entry2 m ρ c))
theorem vloop_out : W7 m ρ c (Proc.devRef .tc main_v7_4) = fun i => vloop (args m c) (i 0) (i 1) :=
  (W7_arr m ρ c 13).trans (Region2.arr13 (entry2 m ρ c))

/-- The node of a padded edge. -/
def node (e : Fin 163840) : Fin 10000 :=
  nbr (args m c).pos (q m ρ c ⟨e.val / 64, by omega⟩) ⟨e.val % 64, by omega⟩

theorem node_slot (r : Fin 2560) (s : Fin 64) : node m ρ c (slotAt r s) = nbr (args m c).pos (q m ρ c r) s := by
  unfold node
  have h1 : (⟨(slotAt r s).val / 64, by omega⟩ : Fin 2560) = r := Fin.ext (Host.slot_div r s)
  have h2 : (⟨(slotAt r s).val % 64, by omega⟩ : Fin 64) = s := Fin.ext (Host.slot_mod r s)
  rw [h1, h2]

theorem nodes (e : Fin 163840) : W8 m ρ c (Proc.devRef .tc main_v9) (ix1 e) = word (node m ρ c e).val := by
  obtain ⟨r, s, rfl⟩ : ∃ r s, e = slotAt r s :=
    ⟨⟨e.val / 64, by omega⟩, ⟨e.val % 64, by omega⟩, Fin.ext (by show e.val = 64 * (e.val / 64) + e.val % 64; omega)⟩
  rw [node_slot]
  exact (Host.v9_at (W7 m ρ c) r s).trans (cols m ρ c s r)

/-- The points of the columns. -/
theorem pc_at (r : Fin 2560) (s : Fin 64) (d : Fin 6) :
    W19 m ρ c (Proc.devRef .tc main_v12) (ix2 (slotAt r s) d) = (args m c).pos (nbr (args m c).pos (q m ρ c r) s) d := by
  rw [show W19 m ρ c (Proc.devRef .tc main_v12) = W9 m ρ c (Proc.devRef .tc main_v12) from
    (W19_of m ρ c main_v12 (by decide)).trans ((W18_of m ρ c main_v12 (by decide)).trans ((W17_of m ρ c main_v12 (by decide)).trans ((W16_of m ρ c main_v12 (by decide)).trans ((W15_of m ρ c main_v12 (by decide)).trans ((W14_of m ρ c main_v12 (by decide)).trans ((W13_of m ρ c main_v12 (by decide)).trans ((W12_of m ρ c main_v12 (by decide)).trans ((W11_of m ρ c main_v12 (by decide)).trans ((W10_of m ρ c main_v12 (by decide)))))))))))]
  rw [show W9 m ρ c (Proc.devRef .tc main_v12) = _ from Takes.take12 (W8 m ρ c),
    Takes.rows6_at _ _ (nodes m ρ c), node_slot]
  exact congrFun (W8_args m ρ c main_arg1 (by decide)) _

/-- The source rows of the columns. -/
theorem ac_at (r : Fin 2560) (s : Fin 64) (l : Fin 128) :
    W19 m ρ c (Proc.devRef .tc main_v13) (ix2 (slotAt r s) l) = src (args m c) (nbr (args m c).pos (q m ρ c r) s) l := by
  rw [show W19 m ρ c (Proc.devRef .tc main_v13) = W10 m ρ c (Proc.devRef .tc main_v13) from
    (W19_of m ρ c main_v13 (by decide)).trans ((W18_of m ρ c main_v13 (by decide)).trans ((W17_of m ρ c main_v13 (by decide)).trans ((W16_of m ρ c main_v13 (by decide)).trans ((W15_of m ρ c main_v13 (by decide)).trans ((W14_of m ρ c main_v13 (by decide)).trans ((W13_of m ρ c main_v13 (by decide)).trans ((W12_of m ρ c main_v13 (by decide)).trans ((W11_of m ρ c main_v13 (by decide))))))))))]
  rw [show W10 m ρ c (Proc.devRef .tc main_v13) = _ from Takes.take13 (W9 m ρ c), W9_of m ρ c main_v9 (by decide),
    Takes.rows128_at _ _ (nodes m ρ c), node_slot, W9_of m ρ c main_v7_1 (by decide), W8_of m ρ c main_v7_1 (by decide), src_out]
  rfl

/-- The values of the columns. -/
theorem xc_at (r : Fin 2560) (s : Fin 64) (l : Fin 128) :
    W19 m ρ c (Proc.devRef .tc main_v14) (ix2 (slotAt r s) l) = xv (args m c) (nbr (args m c).pos (q m ρ c r) s) l := by
  rw [show W19 m ρ c (Proc.devRef .tc main_v14) = W11 m ρ c (Proc.devRef .tc main_v14) from
    (W19_of m ρ c main_v14 (by decide)).trans ((W18_of m ρ c main_v14 (by decide)).trans ((W17_of m ρ c main_v14 (by decide)).trans ((W16_of m ρ c main_v14 (by decide)).trans ((W15_of m ρ c main_v14 (by decide)).trans ((W14_of m ρ c main_v14 (by decide)).trans ((W13_of m ρ c main_v14 (by decide)).trans ((W12_of m ρ c main_v14 (by decide)))))))))]
  rw [show W11 m ρ c (Proc.devRef .tc main_v14) = _ from Takes.take14 (W10 m ρ c), W10_of m ρ c main_v9 (by decide),
    W9_of m ρ c main_v9 (by decide), Takes.rows128_at _ _ (nodes m ρ c), node_slot, W10_of m ρ c main_v7_0 (by decide),
    W9_of m ρ c main_v7_0 (by decide), W8_of m ρ c main_v7_0 (by decide), xv_out]
  rfl

/-- The padded rows: the points, the destination rows, the own logits and the own values. -/
def P (r : Fin 2560) (d : Fin 6) : EReal := W13 m ρ c (Proc.devRef .tc main_v16) (ix2 r d)
def D (r : Fin 2560) (l : Fin 128) : EReal := W15 m ρ c (Proc.devRef .tc main_v20) (ix2 r l)
def A (r : Fin 2560) (l : Fin 128) : EReal := W17 m ρ c (Proc.devRef .tc main_v24) (ix2 r l)
def L (r : Fin 2560) (l : Fin 128) : EReal := W19 m ρ c (Proc.devRef .tc main_v26) (ix2 r l)

theorem P_of (r : Fin 2560) (h : r.val < 2500) : P m ρ c r = (args m c).pos ⟨r.val, by omega⟩ := by
  funext d
  exact (Host.v16_at (W12 m ρ c) r d h).trans ((Host.v15_at (W11 m ρ c) ⟨r.val, h⟩ d).trans
    (congrFun (W11_args m ρ c main_arg1 (by decide)) _))

theorem D_of (r : Fin 2560) (h : r.val < 2500) : D m ρ c r = dst (args m c) ⟨r.val, by omega⟩ := by
  funext l
  refine (Host.v20_at (W14 m ρ c) r l h).trans ((Host.v19_at (W13 m ρ c) ⟨r.val, h⟩ l).trans ?_)
  rw [show W13 m ρ c (Proc.devRef .tc main_v7_2) = W7 m ρ c (Proc.devRef .tc main_v7_2) from
    (W13_of m ρ c main_v7_2 (by decide)).trans ((W12_of m ρ c main_v7_2 (by decide)).trans ((W11_of m ρ c main_v7_2 (by decide)).trans ((W10_of m ρ c main_v7_2 (by decide)).trans ((W9_of m ρ c main_v7_2 (by decide)).trans ((W8_of m ρ c main_v7_2 (by decide))))))), dst_out]
  rfl

theorem A_of (r : Fin 2560) (h : r.val < 2500) : A m ρ c r = aloop (args m c) ⟨r.val, by omega⟩ := by
  funext l
  refine (Host.v24_at (W16 m ρ c) r l h).trans ((Host.v23_at (W15 m ρ c) ⟨r.val, h⟩ l).trans ?_)
  rw [show W15 m ρ c (Proc.devRef .tc main_v7_3) = W7 m ρ c (Proc.devRef .tc main_v7_3) from
    (W15_of m ρ c main_v7_3 (by decide)).trans ((W14_of m ρ c main_v7_3 (by decide)).trans ((W13_of m ρ c main_v7_3 (by decide)).trans ((W12_of m ρ c main_v7_3 (by decide)).trans ((W11_of m ρ c main_v7_3 (by decide)).trans ((W10_of m ρ c main_v7_3 (by decide)).trans ((W9_of m ρ c main_v7_3 (by decide)).trans ((W8_of m ρ c main_v7_3 (by decide))))))))), aloop_out]
  rfl

theorem L_of (r : Fin 2560) (h : r.val < 2500) : L m ρ c r = vloop (args m c) ⟨r.val, by omega⟩ := by
  funext l
  refine (Host.v26_at (W18 m ρ c) r l h).trans ((Host.v25_at (W17 m ρ c) ⟨r.val, h⟩ l).trans ?_)
  rw [show W17 m ρ c (Proc.devRef .tc main_v7_4) = W7 m ρ c (Proc.devRef .tc main_v7_4) from
    (W17_of m ρ c main_v7_4 (by decide)).trans ((W16_of m ρ c main_v7_4 (by decide)).trans ((W15_of m ρ c main_v7_4 (by decide)).trans ((W14_of m ρ c main_v7_4 (by decide)).trans ((W13_of m ρ c main_v7_4 (by decide)).trans ((W12_of m ρ c main_v7_4 (by decide)).trans ((W11_of m ρ c main_v7_4 (by decide)).trans ((W10_of m ρ c main_v7_4 (by decide)).trans ((W9_of m ρ c main_v7_4 (by decide)).trans ((W8_of m ρ c main_v7_4 (by decide))))))))))), vloop_out]
  rfl

/-- What the fourth call starts from. -/
theorem entry3 : Region3.Entry (V19 m ρ) c (args m c) (P m ρ c)
    (fun r s => (args m c).pos (nbr (args m c).pos (q m ρ c r) s)) (D m ρ c)
    (fun r s => src (args m c) (nbr (args m c).pos (q m ρ c r) s)) (fun r s => xv (args m c) (nbr (args m c).pos (q m ρ c r) s))
    (fun r s => isNbr (args m c).pos (q m ρ c r) s ∧ (nbr (args m c).pos (q m ρ c r) s).val ≠ r.val) (A m ρ c) (L m ρ c) where
  pr r s d := (congrFun ((W19_of m ρ c main_v18 (by decide)).trans ((W18_of m ρ c main_v18 (by decide)).trans ((W17_of m ρ c main_v18 (by decide)).trans ((W16_of m ρ c main_v18 (by decide)).trans ((W15_of m ρ c main_v18 (by decide))))))) _).trans (Host.v18_at (W13 m ρ c) r s d)
  pc := pc_at m ρ c
  ar r s l := (congrFun ((W19_of m ρ c main_v22 (by decide)).trans ((W18_of m ρ c main_v22 (by decide)).trans ((W17_of m ρ c main_v22 (by decide))))) _).trans (Host.v22_at (W15 m ρ c) r s l)
  ac := ac_at m ρ c
  xc := xc_at m ρ c
  msk r s := by
    refine (congrFun ((W19_of m ρ c main_v11 (by decide)).trans ((W18_of m ρ c main_v11 (by decide)).trans ((W17_of m ρ c main_v11 (by decide)).trans ((W16_of m ρ c main_v11 (by decide)).trans ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans ((W9_of m ρ c main_v11 (by decide))))))))))))) _).trans ((Host.v11_at (W7 m ρ c) r s).trans ?_)
    rw [masks]
    unfold Radius.maskv ind
    congr
  al r l := congrFun ((W19_of m ρ c main_v24 (by decide)).trans ((W18_of m ρ c main_v24 (by decide)))) _
  vl r l := rfl
  p1 j k := congrFun (W19_args m ρ c main_arg6 (by decide)) _
  p2 j k := congrFun (W19_args m ρ c main_arg8 (by decide)) _
  wa j k := congrFun (W19_args m ρ c main_arg10 (by decide)) _
  b1 k := (congrFun (((W19_of m ρ c main_v4 (by decide)).trans ((W18_of m ρ c main_v4 (by decide)).trans ((W17_of m ρ c main_v4 (by decide)).trans ((W16_of m ρ c main_v4 (by decide)).trans ((W15_of m ρ c main_v4 (by decide)).trans ((W14_of m ρ c main_v4 (by decide)).trans ((W13_of m ρ c main_v4 (by decide)).trans ((W12_of m ρ c main_v4 (by decide)).trans ((W11_of m ρ c main_v4 (by decide)).trans ((W10_of m ρ c main_v4 (by decide)).trans ((W9_of m ρ c main_v4 (by decide)).trans ((W8_of m ρ c main_v4 (by decide)))))))))))))).trans (W7_of m ρ c main_v4 (by decide))) _).trans ((entry2 m ρ c).b1 k)
  b2 k := (congrFun (((W19_of m ρ c main_v5 (by decide)).trans ((W18_of m ρ c main_v5 (by decide)).trans ((W17_of m ρ c main_v5 (by decide)).trans ((W16_of m ρ c main_v5 (by decide)).trans ((W15_of m ρ c main_v5 (by decide)).trans ((W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)))))))))))))).trans (W7_of m ρ c main_v5 (by decide))) _).trans ((entry2 m ρ c).b2 k)
  ba k := (congrFun (((W19_of m ρ c main_v6 (by decide)).trans ((W18_of m ρ c main_v6 (by decide)).trans ((W17_of m ρ c main_v6 (by decide)).trans ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)))))))))))))).trans (W7_of m ρ c main_v6 (by decide))) _).trans ((entry2 m ρ c).ba k)

/-- The kernel's result is the attention of its arguments. -/
theorem value (r : Fin 10000) (l : Fin 128) :
    W21 m ρ c (Proc.devRef .tc main_v30) (ix2 r l) = out (args m c) r l := by
  rw [show W21 m ρ c (Proc.devRef .tc main_v30) (ix2 r l) = _ from Host.v30_at (W20 m ρ c) r l]
  unfold out
  by_cases h : r.val < 2500
  · rw [dif_pos h, if_pos h, show W20 m ρ c (Proc.devRef .tc main_v27) = _ from W20_arr m ρ c 14, Region3.arr14 (entry3 m ρ c)]
    have hq := q_of m ρ c ⟨r.val, by omega⟩ h
    have hP := P_of m ρ c ⟨r.val, by omega⟩ h
    have hD := D_of m ρ c ⟨r.val, by omega⟩ h
    have hA := A_of m ρ c ⟨r.val, by omega⟩ h
    have hL := L_of m ρ c ⟨r.val, by omega⟩ h
    show soft (fun s => isNbr (args m c).pos (q m ρ c ⟨r.val, _⟩) s ∧ (nbr (args m c).pos (q m ρ c ⟨r.val, _⟩) s).val ≠ r.val)
      (fun s => logit (args m c) (D m ρ c ⟨r.val, _⟩) (src (args m c) (nbr (args m c).pos (q m ρ c ⟨r.val, _⟩) s))
        (delta (args m c) (P m ρ c ⟨r.val, _⟩) ((args m c).pos (nbr (args m c).pos (q m ρ c ⟨r.val, _⟩) s))) l)
      (fun s => xv (args m c) (nbr (args m c).pos (q m ρ c ⟨r.val, _⟩) s) l
        + delta (args m c) (P m ρ c ⟨r.val, _⟩) ((args m c).pos (nbr (args m c).pos (q m ρ c ⟨r.val, _⟩) s)) l)
      (A m ρ c ⟨r.val, _⟩ l) (L m ρ c ⟨r.val, _⟩ l) = _
    rw [hq, hP, hD, hA, hL]
    rfl
  · rw [dif_neg h, if_neg h, W20_of m ρ c main_v7_4 (by decide), show W19 m ρ c (Proc.devRef .tc main_v7_4) = W7 m ρ c (Proc.devRef .tc main_v7_4) from
      (W19_of m ρ c main_v7_4 (by decide)).trans ((W18_of m ρ c main_v7_4 (by decide)).trans ((W17_of m ρ c main_v7_4 (by decide)).trans ((W16_of m ρ c main_v7_4 (by decide)).trans ((W15_of m ρ c main_v7_4 (by decide)).trans ((W14_of m ρ c main_v7_4 (by decide)).trans ((W13_of m ρ c main_v7_4 (by decide)).trans ((W12_of m ρ c main_v7_4 (by decide)).trans ((W11_of m ρ c main_v7_4 (by decide)).trans ((W10_of m ρ c main_v7_4 (by decide)).trans ((W9_of m ρ c main_v7_4 (by decide)).trans ((W8_of m ρ c main_v7_4 (by decide))))))))))))), vloop_out]
    rfl

end Cert.KernelIdeal.Whole

end
-- ==== Proof.Pre.lean ====
/-
  What the stated condition says of the arguments: every element of the eleven float arrays is a real number.
-/
module

public import proofs.«01_k».proof.Defs
public import proofs.«01_k».proof.Proof.KernelValue

@[expose] public section

set_option maxRecDepth 16384

noncomputable section

namespace Cert.Finite

open Cert.Rank Cert.Net Cert.Pre_floats_finite
open Idealize.ShloMosaic Idealize.ShloMosaic.TcCoe Idealize.ShloMosaic.Pointwise Idealize.ShloMosaic.Tactic
open Idealize.SL Idealize.SL.Sem

/-- The side conditions the condition's text states. -/
theorem facts : Cert.Pre_floats_finite.Facts where
  bcast_S_S10000x128 := by decide
  bcast_S_S10000x6 := by decide
  bcast_S_S128x128 := by decide
  bcast_S_S6x64 := by decide
  bcast_S_S64 := by decide
  bcast_S_S64x128 := by decide
  bcast_S_S128 := by decide

/-- An extended real whose magnitude is below +inf is a real number. -/
theorem isReal_of_lt {x : EReal} (h : max x (-x) < ⊤) : IsReal x :=
  isReal_iff.2 ⟨fun hx => by simp [hx] at h, fun hx => by simp [hx] at h⟩

/-- Where the comparison of the magnitude with +inf holds everywhere, every element is a real number. -/
theorem isReal_of_all {S : Shape} (hb : S_.BroadcastsInDim S (![] : Fin 0 → Fin S.rank)) (x : FVec Ideal S .f32)
    (h : cmpf (F := Ideal) .olt (Host.absf x) (broadcastInDim S ![] hb (constant S_ .f32 0x7F800000#32)) = fun _ => 1#1)
    (y : S.Idx) : IsReal (x y) := by
  have h := congrFun h y
  apply isReal_of_lt
  by_contra hn
  revert h
  pointwise
  rw [show FloatOps.absf (x y) = _ from Ideal.absf_def _, Const.top_bits, decide_eq_false hn]
  decide

/-- Under the stated condition the network's arguments are real numbers. -/
theorem args_finite (m : (ℓ : Loc Cert.KernelIdeal.nD Cert.KernelIdeal.τ Cert.KernelIdeal.sig) → Buf (Elt Ideal) ℓ)
    (h : Cert.Pre_KernelIdeal_floats_finite (hPre_floats_finite := facts) m) (c : Dev Cert.KernelIdeal.nD) :
    (Cert.KernelIdeal.Whole.args m c).Finite := by
  haveI := facts
  obtain ⟨h0, h1, h2, h3, h4, h5, h6, h7, h8, h9, h10⟩ := h c
  exact ⟨fun i j => isReal_of_all _ _ h0 (ix2 i j), fun i j => isReal_of_all _ _ h1 (ix2 i j),
    fun i j => isReal_of_all _ _ h2 (ix2 i j), fun i j => isReal_of_all _ _ h3 (ix2 i j),
    fun i j => isReal_of_all _ _ h4 (ix2 i j), fun i j => isReal_of_all _ _ h5 (ix2 i j),
    fun i => isReal_of_all _ _ h6 (ix1 i), fun i j => isReal_of_all _ _ h7 (ix2 i j),
    fun i => isReal_of_all _ _ h8 (ix1 i), fun i j => isReal_of_all _ _ h9 (ix2 i j),
    fun i => isReal_of_all _ _ h10 (ix1 i)⟩

end Cert.Finite

end
-- ==== Proof.TopK.lean ====
/-
  The greatest elements of an array along an axis, with their positions, as a ranking of the positions.
-/
module

public import proofs.«01_k».proof.Proof.Words
public import Idealize.ShloMosaic.Lib.Pointwise
public import Idealize.ShloMosaic.Lib.WordCmp

@[expose] public section

noncomputable section

namespace Cert.Rank

open Idealize.ShloMosaic Idealize.ShloMosaic.Pointwise Idealize.ShloMosaic.Tactic

/-- The order that the greatest elements are taken in, as an order of the negated elements. -/
theorem total_gt (a b : Ideal .f32) : ((FloatOps.cmpfTotal (F := Ideal) .gt a b == 1#1) = true) ↔ (-(a : EReal)) < -(b : EReal) := by
  rw [EReal.neg_lt_neg_iff]
  show ((BitVec.ofBool (decide ((a : EReal) > b)) == 1#1) = true) ↔ (b : EReal) < a
  by_cases h : (b : EReal) < a <;> simp [h]

/-- The greatest elements of a list: a ranking of its positions, of which the first ones are given. -/
theorem topK_at1 {n k : Nat} (x : FVec Ideal ⟨1, ![n]⟩ .f32) (h : (⟨1, ![n]⟩ : Shape).Slices (fun _ => 0) ⟨1, ![k]⟩) (hk : k ≤ n) :
    ∃ π : Fin n → Fin n, Ranked (fun j => -(x (ix1 j) : EReal)) π ∧
      ∀ s : Fin k, (Host.topK ⟨1, ![k]⟩ 0 (FloatOps.cmpfTotal .gt) x h).2 (ix1 s) = word (π ⟨s.val, by omega⟩).val := by
  refine ⟨sortedFrom (fun i j => FloatOps.cmpfTotal (F := Ideal) .gt (x (ix1 i)) (x (ix1 j)) == 1#1),
    ranked_sortedFrom fun a b => total_gt _ _, fun s => ?_⟩
  have al : ∀ (j : Shape.Idx ⟨1, ![n]⟩) (i : Fin n), Shape.Idx.along j ⟨0, Nat.zero_lt_one⟩ i = ix1 i := by
    intro j i; funext a; match a with | ⟨0, _⟩ => rfl
  have hs : (fun a : Fin 1 => (⟨0 + ((ix1 s : Shape.Idx ⟨1, ![k]⟩) (a.cast h.1.symm)).val, Nat.lt_of_lt_of_le (Nat.add_lt_add_left ((ix1 s : Shape.Idx ⟨1, ![k]⟩) _).isLt _) (h.2 a)⟩ : Fin (![n] a)))
      = (ix1 (⟨s.val, by omega⟩ : Fin n) : Shape.Idx ⟨1, ![n]⟩) := by
    funext a; match a with | ⟨0, _⟩ => exact Fin.ext (Nat.zero_add _)
  unfold Host.topK extractStridedSlice
  dsimp only
  erw [hs]
  unfold Host.sort2
  rw [dif_pos (show 0 < (⟨1, ![n]⟩ : Shape).rank from Nat.zero_lt_one)]
  dsimp only
  rw [dif_pos (show 0 < (⟨1, ![n]⟩ : Shape).rank from Nat.zero_lt_one)]
  exact congrArg (fun B : Fin n → Fin n → Bool => word (sortedFrom B ⟨s.val, by omega⟩).val)
    (funext fun i => funext fun j => congrArg₂ (fun a b => FloatOps.cmpfTotal (F := Ideal) .gt (x a) (x b) == 1#1) (al _ i) (al _ j))

/-- The greatest elements of each row of a table: a ranking of the row's positions, of which the first ones are given. -/
theorem topK_at2 {m n k : Nat} (x : FVec Ideal ⟨2, ![m, n]⟩ .f32) (h : (⟨2, ![m, n]⟩ : Shape).Slices (fun _ => 0) ⟨2, ![m, k]⟩) (hk : k ≤ n) (q : Fin m) :
    ∃ π : Fin n → Fin n, Ranked (fun j => -(x (ix2 q j) : EReal)) π ∧
      ∀ s : Fin k, (Host.topK ⟨2, ![m, k]⟩ 1 (FloatOps.cmpfTotal .gt) x h).2 (ix2 q s) = word (π ⟨s.val, by omega⟩).val ∧
        (Host.topK ⟨2, ![m, k]⟩ 1 (FloatOps.cmpfTotal .gt) x h).1 (ix2 q s) = x (ix2 q (π ⟨s.val, by omega⟩)) := by
  refine ⟨sortedFrom (fun i j => FloatOps.cmpfTotal (F := Ideal) .gt (x (ix2 q i)) (x (ix2 q j)) == 1#1),
    ranked_sortedFrom fun a b => total_gt _ _, fun s => ?_⟩
  have al : ∀ (j i : Fin n), Shape.Idx.along (s := ⟨2, ![m, n]⟩) (ix2 q j) ⟨1, Nat.one_lt_two⟩ i = ix2 q i := by
    intro j i; funext a; match a with | ⟨0, _⟩ => rfl | ⟨1, _⟩ => rfl
  have hs : (fun a : Fin 2 => (⟨0 + ((ix2 q s : Shape.Idx ⟨2, ![m, k]⟩) (a.cast h.1.symm)).val, Nat.lt_of_lt_of_le (Nat.add_lt_add_left ((ix2 q s : Shape.Idx ⟨2, ![m, k]⟩) _).isLt _) (h.2 a)⟩ : Fin (![m, n] a)))
      = (ix2 q (⟨s.val, by omega⟩ : Fin n) : Shape.Idx ⟨2, ![m, n]⟩) := by
    funext a; match a with | ⟨0, _⟩ => exact Fin.ext (Nat.zero_add _) | ⟨1, _⟩ => exact Fin.ext (Nat.zero_add _)
  unfold Host.topK extractStridedSlice
  dsimp only
  erw [hs]
  unfold Host.sort2
  rw [dif_pos (show 1 < (⟨2, ![m, n]⟩ : Shape).rank from Nat.one_lt_two)]
  dsimp only
  rw [dif_pos (show 1 < (⟨2, ![m, n]⟩ : Shape).rank from Nat.one_lt_two)]
  have hB : (fun i j => FloatOps.cmpfTotal (F := Ideal) .gt (x (Shape.Idx.along (s := ⟨2, ![m, n]⟩) (ix2 q (⟨s.val, by omega⟩ : Fin n)) ⟨1, Nat.one_lt_two⟩ i))
        (x (Shape.Idx.along (s := ⟨2, ![m, n]⟩) (ix2 q (⟨s.val, by omega⟩ : Fin n)) ⟨1, Nat.one_lt_two⟩ j)) == 1#1)
      = fun i j => FloatOps.cmpfTotal (F := Ideal) .gt (x (ix2 q i)) (x (ix2 q j)) == 1#1 :=
    funext fun i => funext fun j => congrArg₂ (fun a b => FloatOps.cmpfTotal (F := Ideal) .gt (x a) (x b) == 1#1) (al _ i) (al _ j)
  refine ⟨congrArg (fun B : Fin n → Fin n → Bool => word (sortedFrom B ⟨s.val, by omega⟩).val) hB, ?_⟩
  exact (congrArg (fun B : Fin n → Fin n → Bool => x (Shape.Idx.along (s := ⟨2, ![m, n]⟩) (ix2 q (⟨s.val, by omega⟩ : Fin n)) ⟨1, Nat.one_lt_two⟩ (sortedFrom B (⟨s.val, by omega⟩ : Fin n)))) hB).trans (congrArg x (al _ _))

end Cert.Rank

end
-- ==== Proof.RefLoop.lean ====
/-
  The reference's loop takes the farthest points one after another: what each trip leaves, and what the loop leaves.
-/
module

public import proofs.«01_k».proof.Proof.ReferenceRun
public import proofs.«01_k».proof.Proof.Fps
public import proofs.«01_k».proof.Proof.TopK
public import Idealize.ShloMosaic.Lib.StableHlo.ReadAt
public import Idealize.ShloMosaic.Lib.DynamicIndex
public import Idealize.ShloMosaic.Lib.Routing.OpsOne
public import Idealize.ShloMosaic.Lib.Routing.OpsSet

@[expose] public section

set_option maxRecDepth 16384

noncomputable section

namespace Cert.ReferenceIdeal.Loop

open Cert.ReferenceIdeal Cert.ReferenceIdeal.Gen Cert.ReferenceIdeal.Value Cert.Rank
open Idealize.ShloMosaic Idealize.ShloMosaic.TcCoe Idealize.ShloMosaic.Pointwise Idealize.ShloMosaic.Tactic
open Idealize.SL Idealize.SL.Sem

/-- A number that counts from the front needs no wrap from the end. -/
theorem wrap (w : IVec S_ 32) (k : Nat) (hk : k < 2 ^ 31) (hw : w ix0 = word k) (n : BitVec 32) :
    select (cmpi .slt w (constantI S_ 32 0#32)) (addi w (constantI S_ 32 n)) w ix0 = word k := by
  pointwise
  rw [hw]
  refine Routing.wrap_of_lt _ _ ?_
  simp only [word, BitVec.toNat_ofNat]
  omega

/-- The entry of a list at a number. -/
theorem entry_at (x : IVec S2500 32) (w : IVec S_ 32) (k : Fin 2500) (hw : w ix0 = word k.val) :
    shapeCast S_ (Host.dynamicSlice S1 x (fun a => (((![w] : Fin 1 → (⟨S_, .i32⟩ : BufTy).Contents (Elt Ideal))) a (Shape.Idx.first h_S_)).toInt) sliceFits_S2500_S1) shapeCasts_S1_S_ ix0
      = x (ix1 k) := by
  have hk := k.isLt
  have e : ∀ a : Fin 1, (((![w] : Fin 1 → (⟨S_, .i32⟩ : BufTy).Contents (Elt Ideal))) a (Shape.Idx.first h_S_)).toInt = ((k.val : Nat) : Int) := by
    intro a
    obtain rfl : a = 0 := Subsingleton.elim _ _
    show (w (Shape.Idx.first h_S_)).toInt = _
    rw [show Shape.Idx.first h_S_ = ix0 from funext fun a => a.elim0, hw, toInt_word (k := k.val) (by omega)]
  have hoff : S2500.Slices (fun _ => k.val) S1 := ⟨rfl, fun a => by obtain rfl : a = 0 := Subsingleton.elim _ _; show k.val + 1 ≤ 2500; omega⟩
  rw [Host.dynamicSlice_eq_extractStridedSlice S1 x _ (fun _ => k.val) sliceFits_S2500_S1 hoff e]
  pointwise

/-- The row of a table at a number, given to every row. -/
theorem row_at (x : FVec Ideal S10000x6 .f32) (w z : IVec S_ 32) (k : Fin 10000) (hw : w ix0 = word k.val) (hz : z ix0 = 0#32) (j : Fin 10000) (d : Fin 6) :
    broadcastInDim S10000x6 ![0, 1] bcast_S1x6_S10000x6_0_1 (broadcastInDim S1x6 ![1] bcast_S6_S1x6_1 (shapeCast S6 (Host.dynamicSlice S1x6 x (fun a => (((![w, z] : Fin 2 → (⟨S_, .i32⟩ : BufTy).Contents (Elt Ideal))) a (Shape.Idx.first h_S_)).toInt) sliceFits_S10000x6_S1x6) shapeCasts_S1x6_S6)) (ix2 j d)
      = x (ix2 k d) := by
  have hk := k.isLt
  have e : ∀ a : Fin 2, (((![w, z] : Fin 2 → (⟨S_, .i32⟩ : BufTy).Contents (Elt Ideal))) a (Shape.Idx.first h_S_)).toInt = (((![k.val, 0] : Fin 2 → Nat) a : Nat) : Int) := by
    intro a
    match a with
    | ⟨0, _⟩ =>
      show (w (Shape.Idx.first h_S_)).toInt = _
      rw [show Shape.Idx.first h_S_ = ix0 from funext fun a => a.elim0, hw, toInt_word (k := k.val) (by omega)]
      rfl
    | ⟨1, _⟩ =>
      show (z (Shape.Idx.first h_S_)).toInt = _
      rw [show Shape.Idx.first h_S_ = ix0 from funext fun a => a.elim0, hz]
      rfl
  have hoff : S10000x6.Slices (![k.val, 0] : Fin 2 → Nat) S1x6 :=
    ⟨rfl, fun a => by match a with | ⟨0, _⟩ => (show k.val + 1 ≤ 10000; omega) | ⟨1, _⟩ => (show 0 + 6 ≤ 6; omega)⟩
  rw [Host.dynamicSlice_eq_extractStridedSlice S1x6 x _ (![k.val, 0] : Fin 2 → Nat) sliceFits_S10000x6_S1x6 hoff e]
  pointwise

/-- What the loop holds before trip `k`, apart from its counter. -/
structure Holds (p : Fin 10000 → Fin 6 → EReal) (k : Nat) (V : Valuation τ sig (Elt Ideal)) : Prop where
  pos : ∀ j d, V (Proc.devRef .tc main_v2_0) (ix2 j d) = p j d
  next : V (Proc.devRef .tc main_v2_2) ix0 = word (k + 1)
  list : ∀ i : Fin 2500, i.val ≤ k → V (Proc.devRef .tc main_v2_3) (ix1 i) = word (taken p i.val).val
  least : ∀ j, V (Proc.devRef .tc main_v2_4) (ix1 j) = (fps p k).1 j

variable {p : Fin 10000 → Fin 6 → EReal} {k : Nat} {V : Valuation τ sig (Elt Ideal)}

theorem v139_at (h : Holds p k V) : res_main_while0b_v139 V ix0 = word k := by
  unfold res_main_while0b_v139
  have h2 := h.next
  generalize (V (Proc.devRef .tc main_v2_2) : IVec S_ 32) = w at h2
  pointwise
  rw [h2]
  show BitVec.ofNat 32 (k + 1) - 1#32 = BitVec.ofNat 32 k
  rw [BitVec.ofNat_add, show (1#32 : BitVec 32) = BitVec.ofNat 32 1 from rfl, BitVec.add_sub_cancel]

theorem v145_at (h : Holds p k V) (hk : k < 2500) : res_main_while0b_v145 V ix0 = word (taken p k).val := by
  have h1 := v139_at h
  unfold res_main_while0b_v145
  generalize (res_main_while0b_v139 V : IVec S_ 32) = w at h1 ⊢
  have h3 := h.list ⟨k, hk⟩ le_rfl
  rw [← h3]
  exact entry_at _ _ ⟨k, hk⟩ (wrap w k (by omega) h1 _)

theorem v156_at (h : Holds p k V) (hk : k < 2500) (j : Fin 10000) (d : Fin 6) :
    res_main_while0b_v156 V (ix2 j d) = p j d - p (taken p k) d := by
  have h1 := v145_at h hk
  have h0 := h.pos
  unfold res_main_while0b_v156
  generalize (res_main_while0b_v145 V : IVec S_ 32) = w at h1 ⊢
  generalize (V (Proc.devRef .tc main_v2_0) : FVec Ideal S10000x6 .f32) = x at h0 ⊢
  have hr := row_at x _ _ (taken p k) (wrap w _ (by have := (taken p k).isLt; omega) h1 10000#32) (wrap (constantI S_ 32 0#32) 0 (by omega) rfl 6#32) j d
  rw [h0] at hr
  refine (congrArg₂ (fun a b : EReal => a - b) (h0 j d) hr)

theorem v159_at (h : Holds p k V) (hk : k < 2500) (j : Fin 10000) : res_main_while0b_v159 V (ix1 j) = (fps p (k + 1)).1 j := by
  have h1 := v156_at h hk j
  have h4 := h.least j
  unfold res_main_while0b_v159
  generalize (res_main_while0b_v156 V : FVec Ideal S10000x6 .f32) = x at h1 ⊢
  generalize (V (Proc.devRef .tc main_v2_4) : FVec Ideal S10000 .f32) = y at h4 ⊢
  pointwise
  rw [fps_succ_fst, h4]
  simp only [h1]
  rfl

/-- The trip leaves the number of the point farthest from those taken. -/
theorem far_at (h : Holds p k V) (hk : k < 2500) :
    (Host.topK S1 0 (FloatOps.cmpfTotal .gt) (res_main_while0b_v159 V) sliceFits_S10000_S1).2 (ix1 0) = word (taken p (k + 1)).val := by
  have h1 := v159_at h hk
  obtain ⟨π, hπ, hx⟩ := topK_at1 (res_main_while0b_v159 V) sliceFits_S10000_S1 (by omega : 1 ≤ 10000)
  have e : ∀ x : FVec Ideal S10000 .f32, (∀ j, x (ix1 j) = (fps p (k + 1)).1 j) → (fun j => -(x (ix1 j) : EReal)) = fun j => -((fps p (k + 1)).1 j) :=
    fun x hx => funext fun j => congrArg (fun z : EReal => -z) (hx j)
  rw [e _ h1] at hπ
  refine (hx 0).trans (congrArg (fun z : Fin 10000 => word z.val) ?_)
  exact (hπ.firstMax ⟨0, by omega⟩ rfl).unique (fps_succ_snd p k)

/-- One trip. -/
theorem step (h : Holds p k V) (hk : k + 1 < 2500) : Holds p (k + 1) (STEP V) where
  pos j d := by rw [STEP_main_v2_0]; exact h.pos j d
  next := by
    rw [STEP_main_v2_2]
    unfold step_main_v2_2
    have h2 := h.next
    generalize (V (Proc.devRef .tc main_v2_2) : IVec S_ 32) = w at h2 ⊢
    show IntOp.addi (w ix0) 1#32 = _
    rw [h2]
    show BitVec.ofNat 32 (k + 1) + BitVec.ofNat 32 1 = BitVec.ofNat 32 (k + 1 + 1)
    rw [← BitVec.ofNat_add]
  list i hi := by
    rw [STEP_main_v2_3]
    unfold step_main_v2_3
    have hf := far_at h (by omega)
    have hw := wrap _ (k + 1) (by omega) h.next 2500#32
    have h3 := h.list i
    generalize (Host.topK S1 0 (FloatOps.cmpfTotal .gt) (res_main_while0b_v159 V) sliceFits_S10000_S1).2 = u at hf ⊢
    generalize (V (Proc.devRef .tc main_v2_3) : IVec S2500 32) = x at h3 ⊢
    generalize (V (Proc.devRef .tc main_v2_2) : IVec S_ 32) = w at hw ⊢
    have hb : broadcastInDim S1 ![] bcast_S_S1 (id (select (cmpi CmpIPredicate.slt w (constantI S_ 32 0#32)) (addi w (constantI S_ 32 2500#32)) w)) (ix1 0) = word (k + 1) := by
      rw [← hw]
      generalize select (cmpi CmpIPredicate.slt w (constantI S_ 32 0#32)) (addi w (constantI S_ 32 2500#32)) w = z
      show broadcastInDim S1 ![] bcast_S_S1 z (ix1 0) = z ix0
      pointwise
    rw [ix1_eq_valueIdx] at hb
    refine (Routing.scatter_one scatter_S2500_S1_S__n_0_0_0 rfl rfl x _ _ ⟨k + 1, hk⟩ (by show k + 1 < 2 ^ 31; omega) hb i).trans ?_
    split
    · rename_i hik
      rw [hik]
      refine Eq.trans ?_ hf
      rw [← show (ix0 : S_.Idx) = ValueIdx.ix0 from funext fun a => a.elim0]
      pointwise
    · rename_i hik
      exact h3 (by have : i.val ≠ k + 1 := fun e => hik (Fin.ext e); omega)
  least j := by rw [STEP_main_v2_4]; exact v159_at h (by omega) j

theorem Holds.congr {V' : Valuation τ sig (Elt Ideal)} (h : Holds p k V) (e : Agree V' V) : Holds p k V' where
  pos j d := by rw [e main_v2_0 (by simp [carriedRefs])]; exact h.pos j d
  next := by rw [e main_v2_2 (by simp [carriedRefs])]; exact h.next
  list i hi := by rw [e main_v2_3 (by simp [carriedRefs])]; exact h.list i hi
  least j := by rw [e main_v2_4 (by simp [carriedRefs])]; exact h.least j

variable (m : (ℓ : Loc nD τ sig) → Buf (Elt Ideal) ℓ) (c : Dev nD)

/-- The points' positions on a device. -/
abbrev points : Fin 10000 → Fin 6 → EReal := fun j d => m ((c.tc : Thread nD τ).loc main_arg1) (ix2 j d)

theorem entry_holds : Holds (points m c) 0 (StableHlo.entryContents preI m c) where
  pos j d := by
    simp only [StableHlo.entryContents, StableHlo.afterL_cons, StableHlo.afterL_nil]
    after_reads_simp
    rfl
  next := by
    simp only [StableHlo.entryContents, StableHlo.afterL_cons, StableHlo.afterL_nil]
    after_reads_simp
    rfl
  list i hi := by
    simp only [StableHlo.entryContents, StableHlo.afterL_cons, StableHlo.afterL_nil]
    after_reads_simp
    rw [show i.val = 0 by omega]
    rfl
  least j := by
    simp only [StableHlo.entryContents, StableHlo.afterL_cons, StableHlo.afterL_nil]
    after_reads_simp
    pointwise
    exact Cert.Const.top_bits

theorem holds : ∀ k, k < 2500 → Holds (points m c) k (atK m k c)
  | 0, _ => entry_holds m c
  | k + 1, hk => (step (holds k (by omega)) hk).congr (trip_agree (atK m k c))

/-- The loop leaves the numbers of the points taken. -/
theorem taken_at (i : Fin 2500) : X0 m c (Proc.devRef .tc main_v2_3) (ix1 i) = word (taken (points m c) i.val).val :=
  ((holds m c 2499 (by omega)).congr (cond_keeps _)).list i (by omega)

end Cert.ReferenceIdeal.Loop

end
-- ==== Proof.RefNbr.lean ====
/-
  The reference's neighbour lists: each query's points within the radius, nearest first, as edges.
-/
module

public import proofs.«01_k».proof.Proof.RefLoop
public import proofs.«01_k».proof.Proof.Radius
public import proofs.«01_k».proof.Proof.Net
public import Idealize.ShloMosaic.Lib.Routing.OpsPair

@[expose] public section

set_option maxRecDepth 16384

noncomputable section

namespace Cert.ReferenceIdeal.Nbr

open Cert.ReferenceIdeal Cert.ReferenceIdeal.Gen Cert.ReferenceIdeal.Value Cert.Rank Cert.Net
open Idealize.ShloMosaic Idealize.ShloMosaic.TcCoe Idealize.ShloMosaic.Pointwise Idealize.ShloMosaic.Tactic
open Idealize.SL Idealize.SL.Sem

variable (V : Valuation τ sig (Elt Ideal))

/-- The column of a list of points, negative numbers counted from the end. -/
def column (w : IVec S2500 32) : IVec S2500x1 32 :=
  broadcastInDim S2500x1 ![0] bcast_S2500_S2500x1_0 (select (cmpi .slt w (broadcastInDim S2500 ![] bcast_S_S2500 (constantI S_ 32 0#32)))
    (addi w (broadcastInDim S2500 ![] bcast_S_S2500 (constantI S_ 32 10000#32))) w)

/-- The rows of a table at a list of points. -/
def chosen (x : FVec Ideal S10000x6 .f32) (w : IVec S2500 32) : FVec Ideal S2500x6 .f32 :=
  Host.gather gather_S10000x6_S2500x1_S2500x6_1_0_n_n_0_1_16 x (column w)

/-- The differences of chosen rows and all rows. -/
def apart (y : FVec Ideal S2500x6 .f32) (x : FVec Ideal S10000x6 .f32) : FVec Ideal S2500x10000x6 .f32 :=
  subf (broadcastInDim S2500x10000x6 ![0, 1, 2] bcast_S2500x1x6_S2500x10000x6_0_1_2 (broadcastInDim S2500x1x6 ![0, 2] bcast_S2500x6_S2500x1x6_0_2 y))
    (broadcastInDim S2500x10000x6 ![0, 1, 2] bcast_S1x10000x6_S2500x10000x6_0_1_2 (broadcastInDim S1x10000x6 ![1, 2] bcast_S10000x6_S1x10000x6_1_2 x))

/-- The squared distances. -/
def squares (u : FVec Ideal S2500x10000x6 .f32) : FVec Ideal S2500x10000 .f32 :=
  Host.reduceAdd (mulf u u) (constant S_ .f32 0x00000000#32) reducesTo_S2500x10000x6_S2500x10000_d2 h_S_

theorem v16_eq : StableHlo.after hostOps0_1 V (Proc.devRef .tc main_v16) =
    squares (apart (chosen (V (Proc.devRef .tc main_arg1)) (V (Proc.devRef .tc main_v2_3))) (V (Proc.devRef .tc main_arg1))) := by
  unfold hostOps0_1
  after_reads_simp
  rfl

theorem v18_eq : StableHlo.after hostOps0_1 V (Proc.devRef .tc main_v18) =
    cmpf (F := Ideal) (φ := .f32) .ole (StableHlo.after hostOps0_1 V (Proc.devRef .tc main_v16)) (broadcastInDim S2500x10000 ![] bcast_S_S2500x10000 (constant S_ .f32 0x40C80000#32)) := by
  rw [v16_eq]
  unfold hostOps0_1
  after_reads_simp
  rfl

theorem cst6_eq : StableHlo.after hostOps0_1 V (Proc.devRef .tc main_cst_6) = constant (F := Ideal) S_ .f32 0x7F800000#32 := by
  unfold hostOps0_1
  after_reads_simp

theorem v19_eq : StableHlo.after hostOps0_2 V (Proc.devRef .tc main_v19) =
    select (V (Proc.devRef .tc main_v18)) (V (Proc.devRef .tc main_v16)) (broadcastInDim S2500x10000 ![] bcast_S_S2500x10000 (V (Proc.devRef .tc main_cst_6))) := by
  unfold hostOps0_2
  after_reads_simp
  simp -implicitDefEqProofs only [StableHlo.TRef.toBuf, StableHlo.TRef.ofBuf, cast_cast, cast_eq]
  rfl

variable (p : Fin 10000 → Fin 6 → EReal) (n : Fin 2500 → Fin 10000)

theorem column_at (w : IVec S2500 32) (hn : ∀ i, w (ix1 i) = word (n i).val) (e : Fin 2500) (i : Fin 1) : column w (ix2 e i) = word (n e).val := by
  pointwise [column]
  rw [hn]
  refine Routing.wrap_of_lt _ _ ?_
  have := (n e).isLt
  simp only [word, BitVec.toNat_ofNat]
  omega

theorem chosen_at (x : FVec Ideal S10000x6 .f32) (hx : ∀ j d, x (ix2 j d) = p j d) (w : IVec S2500 32) (hn : ∀ i, w (ix1 i) = word (n i).val) (e : Fin 2500) (d : Fin 6) :
    chosen x w (ix2 e d) = p (n e) d := by
  have hc := column_at n w hn e 0
  rw [← hx]
  unfold chosen
  generalize column w = k at hc ⊢
  simp only [ix2_eq_valueIdx] at hc ⊢
  exact Routing.gather_row _ rfl rfl rfl rfl rfl x k e d (n e) hc (by norm_num)

theorem apart_at (y : FVec Ideal S2500x6 .f32) (x : FVec Ideal S10000x6 .f32) (r : Fin 2500) (j : Fin 10000) (d : Fin 6) (a b : EReal)
    (ha : y (ix2 r d) = a) (hb : x (ix2 j d) = b) : apart y x (ix3 r j d) = a - b := by
  pointwise [apart]
  rw [ha, hb]

theorem squares_at (u : FVec Ideal S2500x10000x6 .f32) (r : Fin 2500) (j : Fin 10000) (g : Fin 6 → EReal) (hg : ∀ d, u (ix3 r j d) = g d) :
    squares u (ix2 r j) = ∑ d, g d * g d := by
  pointwise [squares]
  simp only [hg]

/-- The squared distance within the radius, and `⊤` elsewhere. -/
theorem kept_at (y : FVec Ideal S2500x10000 .f32) (r : Fin 2500) (j : Fin 10000) (hp : ∀ j d, IsReal (p j d)) (q : Fin 10000)
    (hy : y (ix2 r j) = ∑ d : Fin 6, (p q d - p j d) * (p q d - p j d)) :
    select (cmpf .ole y (broadcastInDim S2500x10000 ![] bcast_S_S2500x10000 (constant S_ .f32 0x40C80000#32))) y (broadcastInDim S2500x10000 ![] bcast_S_S2500x10000 (constant S_ .f32 0x7F800000#32)) (ix2 r j)
      = near p (p q) j := by
  have hy' : y (ix2 r j) = ∑ d : Fin 6, (p j d - p q d) * (p j d - p q d) :=
    hy.trans (Finset.sum_congr rfl fun d _ => sq_comm (hp _ _) (hp _ _))
  pointwise
  rw [hy', Const.top_bits]
  unfold near r2
  split <;> rfl

theorem v20_eq : StableHlo.after hostOps0_3 V (Proc.devRef .tc main_v20) = Host.negf (F := Ideal) (φ := .f32) (V (Proc.devRef .tc main_v19)) := by
  unfold hostOps0_3
  after_reads_simp

/-- The nearest points of each query, with their negated squared distances. -/
abbrev best (x : FVec Ideal S2500x10000 .f32) := Host.topK S2500x64 1 (FloatOps.cmpfTotal .gt) x sliceFits_S2500x10000_S2500x64

theorem v26_eq : StableHlo.after hostOps0_3 V (Proc.devRef .tc main_v26) =
    shapeCast S160000 (best (Host.negf (F := Ideal) (φ := .f32) (V (Proc.devRef .tc main_v19)))).2 shapeCasts_S2500x64_S160000 := by
  unfold hostOps0_3
  after_reads_simp
  rfl

theorem v27_eq : StableHlo.after hostOps0_3 V (Proc.devRef .tc main_v27) =
    shapeCast S160000 (cmpf .ogt (best (Host.negf (F := Ideal) (φ := .f32) (V (Proc.devRef .tc main_v19)))).1
      (broadcastInDim S2500x64 ![] bcast_S_S2500x64 (constant S_ .f32 0xFF800000#32))) shapeCasts_S2500x64_S160000 := by
  unfold hostOps0_3
  after_reads_simp
  rfl

theorem v25_eq : StableHlo.after hostOps0_3 V (Proc.devRef .tc main_v25) =
    shapeCast S160000 (broadcastInDim S2500x64 ![0] bcast_S2500_S2500x64_0 (iotaInDim S2500 32 0)) shapeCasts_S2500x64_S160000 := by
  unfold hostOps0_3
  after_reads_simp
  rfl

theorem c8_eq : StableHlo.after hostOps0_3 V (Proc.devRef .tc main_c_8) = constantI S_ 32 0#32 := by
  unfold hostOps0_3
  after_reads_simp

theorem v28_eq : StableHlo.after hostOps0_4 V (Proc.devRef .tc main_v28) =
    select (V (Proc.devRef .tc main_v27)) (V (Proc.devRef .tc main_v26)) (broadcastInDim S160000 ![] bcast_S_S160000 (V (Proc.devRef .tc main_c_8))) := by
  unfold hostOps0_4
  after_reads_simp
  simp -implicitDefEqProofs only [StableHlo.TRef.toBuf, StableHlo.TRef.ofBuf, cast_cast, cast_eq]
  rfl

/-- The place of a row's slot in the list of all rows' slots. -/
abbrev place (r : Fin 2500) (s : Fin 64) : Fin 160000 := ⟨r.val * 64 + s.val, by omega⟩

/-- A table of rows as one list. -/
theorem flat_at {α : Type} (x : S2500x64.Idx → α) (r : Fin 2500) (s : Fin 64) :
    shapeCast S160000 x shapeCasts_S2500x64_S160000 (ix1 (place r s)) = x (ix2 r s) := by
  pointwise
  have h1 : (⟨(r.val * 64 + s.val) / 64, by omega⟩ : Fin 2500) = r := Fin.ext (by show (r.val * 64 + s.val) / 64 = r.val; omega)
  have h2 : (⟨(r.val * 64 + s.val) % 64, by omega⟩ : Fin 64) = s := Fin.ext (by show (r.val * 64 + s.val) % 64 = s.val; omega)
  rw [h1, h2]

theorem v25_at (r : Fin 2500) (s : Fin 64) : StableHlo.after hostOps0_3 V (Proc.devRef .tc main_v25) (ix1 (place r s)) = word r.val := by
  rw [v25_eq, flat_at]
  pointwise

variable (q : Fin 2500 → Fin 6 → EReal) (hV : ∀ r j, V (Proc.devRef .tc main_v19) (ix2 r j) = near p (q r) j)

include hV

theorem best_at (r : Fin 2500) (s : Fin 64) :
    (best (Host.negf (F := Ideal) (φ := .f32) (V (Proc.devRef .tc main_v19)))).2 (ix2 r s) = word (order (near p (q r)) (slot s)).val ∧
    (best (Host.negf (F := Ideal) (φ := .f32) (V (Proc.devRef .tc main_v19)))).1 (ix2 r s) = -(near p (q r) (order (near p (q r)) (slot s))) := by
  have e : ∀ x : FVec Ideal S2500x10000 .f32, (∀ j, x (ix2 r j) = near p (q r) j) → (fun j => -(Host.negf x (ix2 r j) : EReal)) = near p (q r) := fun x hx => funext fun j => by
    show - -(x (ix2 r j) : EReal) = _
    rw [neg_neg]; exact hx j
  have e' : ∀ (x : FVec Ideal S2500x10000 .f32), (∀ j, x (ix2 r j) = near p (q r) j) → ∀ j, Host.negf x (ix2 r j) = -(near p (q r) j) := fun x hx j =>
    congrArg (fun z : EReal => -z) (hx j)
  obtain ⟨π, hπ, h⟩ := topK_at2 (Host.negf (F := Ideal) (φ := .f32) (V (Proc.devRef .tc main_v19))) sliceFits_S2500x10000_S2500x64 (by omega : 64 ≤ 10000) r
  rw [e _ (hV r)] at hπ
  obtain rfl := hπ.unique (order_ranked _)
  exact ⟨(h s).1, (h s).2.trans (e' _ (hV r) _)⟩

theorem v26_at (r : Fin 2500) (s : Fin 64) : StableHlo.after hostOps0_3 V (Proc.devRef .tc main_v26) (ix1 (place r s)) = word (order (near p (q r)) (slot s)).val := by
  rw [v26_eq, flat_at]
  exact (best_at V p q hV r s).1

theorem v27_at (r : Fin 2500) (s : Fin 64) [Decidable (isNbr p (q r) s)] :
    StableHlo.after hostOps0_3 V (Proc.devRef .tc main_v27) (ix1 (place r s)) = BitVec.ofBool (decide (isNbr p (q r) s)) := by
  rw [v27_eq, flat_at]
  have h := (best_at V p q hV r s).2
  generalize (best (Host.negf (F := Ideal) (φ := .f32) (V (Proc.devRef .tc main_v19)))).1 = z at h ⊢
  pointwise
  rw [h, Const.bot_bits]
  have : ((⊥ : EReal) < -near p (q r) (order (near p (q r)) (slot s))) ↔ isNbr p (q r) s := by
    unfold isNbr
    rw [← EReal.neg_top, EReal.neg_lt_neg_iff]
  rw [decide_eq_decide.2 this]

omit hV

/-- The slot's neighbour, and point 0 where the slot is empty. -/
theorem v28_at (r : Fin 2500) (s : Fin 64) [Decidable (isNbr p (q r) s)]
    (h26 : V (Proc.devRef .tc main_v26) (ix1 (place r s)) = word (order (near p (q r)) (slot s)).val)
    (h27 : V (Proc.devRef .tc main_v27) (ix1 (place r s)) = BitVec.ofBool (decide (isNbr p (q r) s)))
    (h8 : V (Proc.devRef .tc main_c_8) = constantI S_ 32 0#32) :
    StableHlo.after hostOps0_4 V (Proc.devRef .tc main_v28) (ix1 (place r s)) = word (nbr p (q r) s).val := by
  rw [v28_eq, h8]
  generalize (V (Proc.devRef .tc main_v26) : IVec S160000 32) = x at h26 ⊢
  generalize (V (Proc.devRef .tc main_v27) : IVec S160000 1) = y at h27 ⊢
  pointwise
  rw [h26, h27]
  unfold nbr
  by_cases h : isNbr p (q r) s
  · rw [decide_eq_true h, pick_pos h]
    exact if_pos rfl
  · rw [decide_eq_false h, pick_neg h]
    rfl

variable (m : (ℓ : Loc nD τ sig) → Buf (Elt Ideal) ℓ) (c : Dev nD)

/-- The position of a query. -/
abbrev query (r : Fin 2500) : Fin 6 → EReal := Loop.points m c (taken (Loop.points m c) r.val)

theorem X0_arg1 : X0 m c (Proc.devRef .tc main_arg1) = m ((c.tc : Thread nD τ).loc main_arg1) := by
  exact X0_of m c _ (by decide) (by decide) (by decide)

theorem dist_at (hp : ∀ j d, IsReal (Loop.points m c j d)) (r : Fin 2500) (j : Fin 10000) :
    X2 m c (Proc.devRef .tc main_v19) (ix2 r j) = near (Loop.points m c) (query m c r) j := by
  have e18 : X1 m c (Proc.devRef .tc main_v18) = _ := v18_eq (X0 m c)
  have e6 : X1 m c (Proc.devRef .tc main_cst_6) = _ := cst6_eq (X0 m c)
  have e16 : X1 m c (Proc.devRef .tc main_v16) = _ := v16_eq (X0 m c)
  unfold X2
  rw [v19_eq, e18, e6]
  refine kept_at (Loop.points m c) (X1 m c (Proc.devRef .tc main_v16)) r j hp _ ?_
  rw [e16]
  refine (squares_at _ r j _ fun d => apart_at _ _ r j d _ _ (chosen_at (Loop.points m c) (fun i => taken (Loop.points m c) i.val) _ ?_ _ (Loop.taken_at m c) r d) ?_)
  · intro j d; rw [X0_arg1]
  · rw [X0_arg1]

theorem X4_v25 (r : Fin 2500) (s : Fin 64) : X4 m c (Proc.devRef .tc main_v25) (ix1 (place r s)) = word r.val := by
  rw [X4_of m c _ (by decide)]
  exact v25_at (X2 m c) r s

variable (hp : ∀ j d, IsReal (Loop.points m c j d))

include hp

theorem X4_v27 (r : Fin 2500) (s : Fin 64) [Decidable (isNbr (Loop.points m c) (query m c r) s)] :
    X4 m c (Proc.devRef .tc main_v27) (ix1 (place r s)) = BitVec.ofBool (decide (isNbr (Loop.points m c) (query m c r) s)) := by
  rw [X4_of m c _ (by decide)]
  exact v27_at (X2 m c) _ _ (dist_at m c hp) r s

theorem X4_v28 (r : Fin 2500) (s : Fin 64) :
    X4 m c (Proc.devRef .tc main_v28) (ix1 (place r s)) = word (nbr (Loop.points m c) (query m c r) s).val := by
  classical
  exact v28_at (X3 m c) _ _ r s (v26_at (X2 m c) _ _ (dist_at m c hp) r s) (v27_at (X2 m c) _ _ (dist_at m c hp) r s) (c8_eq (X2 m c))

end Cert.ReferenceIdeal.Nbr

end
-- ==== Proof.RefOps.lean ====
/-
  The reference's operations over the list of edges, element by element: takes of rows at the edges' nodes, sums of the
  edges' values at their rows, the largest of a row's edges.
-/
module

public import proofs.«01_k».proof.Proof.ReferenceRun
public import proofs.«01_k».proof.Proof.Words
public import proofs.«01_k».proof.Proof.Soft
public import Idealize.ShloMosaic.Lib.StableHlo.ReadAt
public import Idealize.ShloMosaic.Lib.Routing.OpsPair
public import Idealize.ShloMosaic.Lib.Routing.OpsSet

@[expose] public section

set_option maxRecDepth 16384

noncomputable section

namespace Cert.ReferenceIdeal.Ops

open Cert.ReferenceIdeal Cert.ReferenceIdeal.Gen Cert.Rank Cert.Net
open Idealize.ShloMosaic Idealize.ShloMosaic.TcCoe Idealize.ShloMosaic.Pointwise Idealize.ShloMosaic.Tactic

/-- The column of a list of nodes, negative numbers counted from the end. -/
def column (w : IVec S170000 32) : IVec S170000x1 32 :=
  broadcastInDim S170000x1 ![0] bcast_S170000_S170000x1_0 (select (cmpi .slt w (broadcastInDim S170000 ![] bcast_S_S170000 (constantI S_ 32 0#32)))
    (addi w (broadcastInDim S170000 ![] bcast_S_S170000 (constantI S_ 32 10000#32))) w)

/-- The rows of a table of six columns at a list of nodes. -/
def rows6 (t : FVec Ideal S10000x6 .f32) (w : IVec S170000 32) : FVec Ideal S170000x6 .f32 :=
  Host.gather gather_S10000x6_S170000x1_S170000x6_1_0_n_n_0_1_16 t (column w)

/-- The rows of a table of a hundred and twenty-eight columns at a list of nodes. -/
def rows128 (t : FVec Ideal S10000x128 .f32) (w : IVec S170000 32) : FVec Ideal S170000x128 .f32 :=
  Host.gather gather_S10000x128_S170000x1_S170000x128_1_0_n_n_0_1_1128 t (column w)

/-- The sums of the edges' values at their rows. -/
def sums (w : IVec S170000 32) (u : FVec Ideal S170000x128 .f32) : FVec Ideal S10000x128 .f32 :=
  Host.scatterAdd scatter_S10000x128_S170000x1_S170000x128_1_0_0_1
    (broadcastInDim S10000x128 ![] bcast_S_S10000x128 (constant S_ .f32 0x00000000#32))
    (broadcastInDim S170000x1 ![0] bcast_S170000_S170000x1_0 w) u

variable (w : IVec S170000 32) (n : Fin 170000 → Fin 10000) (hn : ∀ e, w (ix1 e) = word (n e).val)

include hn

theorem column_at (e : Fin 170000) (i : Fin 1) : column w (ix2 e i) = word (n e).val := by
  pointwise [column]
  rw [hn]
  refine Routing.wrap_of_lt _ _ ?_
  have := (n e).isLt
  simp only [word, BitVec.toNat_ofNat]
  omega

theorem rows6_at (t : FVec Ideal S10000x6 .f32) (e : Fin 170000) (d : Fin 6) : rows6 t w (ix2 e d) = t (ix2 (n e) d) := by
  have hc := column_at w n hn e 0
  unfold rows6
  generalize column w = k at hc ⊢
  simp only [ix2_eq_valueIdx] at hc ⊢
  exact Routing.gather_row _ rfl rfl rfl rfl rfl t k e d (n e) hc (by norm_num)

theorem rows128_at (t : FVec Ideal S10000x128 .f32) (e : Fin 170000) (d : Fin 128) : rows128 t w (ix2 e d) = t (ix2 (n e) d) := by
  have hc := column_at w n hn e 0
  unfold rows128
  generalize column w = k at hc ⊢
  simp only [ix2_eq_valueIdx] at hc ⊢
  exact Routing.gather_row _ rfl rfl rfl rfl rfl t k e d (n e) hc (by norm_num)

omit hn

/-- Where an edge's value goes: to the row its word names. -/
theorem lands (k : IVec S170000x1 32) (e : Fin 170000) (l' : Fin 128) (r : Fin 10000) (l : Fin 128) :
    scatter_S10000x128_S170000x1_S170000x128_1_0_0_1.resultIdx? (ix2 e l') k = some (ix2 r l)
      ↔ (k (ix2 e 0)).toInt = (r.val : Int) ∧ l' = l := by
  have h0 : scatter_S10000x128_S170000x1_S170000x128_1_0_0_1.start (ix2 e l') k 0 = (k (ix2 e 0)).toInt := by
    unfold ScatterDims.start
    rw [dif_pos (by decide)]
    congr 2
    funext b
    match b with
    | ⟨0, _⟩ => rfl
    | ⟨1, _⟩ => rfl
  have h1 : scatter_S10000x128_S170000x1_S170000x128_1_0_0_1.start (ix2 e l') k 1 = 0 := by
    unfold ScatterDims.start
    rw [dif_neg (by decide)]
  have h2 : scatter_S10000x128_S170000x1_S170000x128_1_0_0_1.window (ix2 e l') 0 = 0 := by
    unfold ScatterDims.window
    rw [dif_neg (by decide)]
  have h3 : scatter_S10000x128_S170000x1_S170000x128_1_0_0_1.window (ix2 e l') 1 = l'.val := by
    unfold ScatterDims.window
    rw [dif_pos (by decide)]
    rfl
  rw [Routing.resultIdx?_eq_some]
  constructor
  · intro h
    have a := h 0
    have b := h 1
    rw [h0, h2] at a
    rw [h1, h3] at b
    exact ⟨by simpa using a, Fin.ext (by simpa using b)⟩
  · rintro ⟨h, rfl⟩ a
    match a with
    | ⟨0, _⟩ =>
      show scatter_S10000x128_S170000x1_S170000x128_1_0_0_1.start (ix2 e l') k 0
        + ((scatter_S10000x128_S170000x1_S170000x128_1_0_0_1.window (ix2 e l') 0 : ℕ) : Int) = (r.val : Int)
      rw [h0, h2, h]; rfl
    | ⟨1, _⟩ =>
      show scatter_S10000x128_S170000x1_S170000x128_1_0_0_1.start (ix2 e l') k 1
        + ((scatter_S10000x128_S170000x1_S170000x128_1_0_0_1.window (ix2 e l') 1 : ℕ) : Int) = (l'.val : Int)
      rw [h1, h3]; exact zero_add _

include hn

theorem sums_at (u : FVec Ideal S170000x128 .f32) (r : Fin 10000) (l : Fin 128) :
    sums w u (ix2 r l) = ∑ e ∈ Finset.univ.filter (fun e => n e = r), u (ix2 e l) := by
  have hk : ∀ e, broadcastInDim S170000x1 ![0] bcast_S170000_S170000x1_0 w (ix2 e 0) = word (n e).val := fun e => by
    pointwise
    exact hn e
  unfold sums
  generalize broadcastInDim S170000x1 ![0] bcast_S170000_S170000x1_0 w = k at hk ⊢
  show broadcastInDim S10000x128 ![] bcast_S_S10000x128 (constant (F := Ideal) S_ .f32 0x00000000#32) (ix2 r l)
    + ∑ j ∈ Finset.univ.filter (fun j => scatter_S10000x128_S170000x1_S170000x128_1_0_0_1.resultIdx? j k = some (ix2 r l)), u j = _
  rw [show broadcastInDim S10000x128 ![] bcast_S_S10000x128 (constant (F := Ideal) S_ .f32 0x00000000#32) (ix2 r l) = 0 by pointwise, zero_add]
  symm
  refine Finset.sum_bij (fun e _ => ix2 e l) ?_ ?_ ?_ ?_
  · intro e he
    rw [Finset.mem_filter] at he ⊢
    refine ⟨Finset.mem_univ _, (lands k e l r l).2 ⟨?_, rfl⟩⟩
    rw [hk, he.2, toInt_word (by have := r.isLt; omega)]
  · intro a _ b _ h
    exact congrFun h 0
  · intro j hj
    obtain ⟨e, l', rfl⟩ : ∃ (e : Fin 170000) (l' : Fin 128), j = ix2 e l' := ⟨_, _, eq_ix2 j⟩
    obtain ⟨h, rfl⟩ := (lands k e l' r l).1 (Finset.mem_filter.1 hj).2
    refine ⟨e, Finset.mem_filter.2 ⟨Finset.mem_univ _, ?_⟩, rfl⟩
    rw [hk, toInt_word (k := (n e).val) (by have := (n e).isLt; omega)] at h
    exact Fin.ext (by exact_mod_cast h)
  · intro e _
    rfl

end Cert.ReferenceIdeal.Ops

end
-- ==== Proof.RefHost.lean ====
/-
  What the reference's stretches over its list of edges leave, element by element, from any contents before them.
-/
module

public import proofs.«01_k».proof.Proof.RefOps

@[expose] public section

set_option maxRecDepth 16384

noncomputable section

namespace Cert.ReferenceIdeal.Host

open Cert.ReferenceIdeal Cert.ReferenceIdeal.Gen Cert.Rank Cert.Net Cert.ReferenceIdeal.Ops
open Idealize.ShloMosaic Idealize.ShloMosaic.TcCoe Idealize.ShloMosaic.Pointwise Idealize.ShloMosaic.Tactic

variable (V : Valuation τ sig (Elt Ideal))

/-- An element of a float array. -/
abbrev num (x : EReal) : EReal := x

theorem v32_eq : StableHlo.after hostOps0_5 V (Proc.devRef .tc main_v32) =
    concatenate S170000 0 [⟨S160000, V (Proc.devRef .tc main_v25)⟩, ⟨S10000, iotaInDim S10000 32 0⟩] concatenates_S160000_S10000_S170000_d0 := by
  funext i
  obtain ⟨e, rfl⟩ : ∃ e : Fin 170000, i = ix1 e := ⟨_, eq_ix1 i⟩
  after_reads_at

theorem v33_eq : StableHlo.after hostOps0_5 V (Proc.devRef .tc main_v33) =
    concatenate S170000 0 [⟨S160000, V (Proc.devRef .tc main_v28)⟩, ⟨S10000, iotaInDim S10000 32 0⟩] concatenates_S160000_S10000_S170000_d0 := by
  funext i
  obtain ⟨e, rfl⟩ : ∃ e : Fin 170000, i = ix1 e := ⟨_, eq_ix1 i⟩
  after_reads_at

theorem v32_at (e : Fin 170000) : StableHlo.after hostOps0_5 V (Proc.devRef .tc main_v32) (ix1 e) =
    if h : e.val < 160000 then V (Proc.devRef .tc main_v25) (ix1 ⟨e.val, h⟩) else word (e.val - 160000) := by
  after_reads_at

theorem v33_at (e : Fin 170000) : StableHlo.after hostOps0_5 V (Proc.devRef .tc main_v33) (ix1 e) =
    if h : e.val < 160000 then V (Proc.devRef .tc main_v28) (ix1 ⟨e.val, h⟩) else word (e.val - 160000) := by
  after_reads_at

theorem v35_at (e : Fin 170000) : StableHlo.after hostOps0_5 V (Proc.devRef .tc main_v35) (ix1 e) =
    if h : e.val < 160000 then IntOp.andi (V (Proc.devRef .tc main_v27) (ix1 ⟨e.val, h⟩))
      (IntOp.cmpi .ne (V (Proc.devRef .tc main_v25) (ix1 ⟨e.val, h⟩)) (V (Proc.devRef .tc main_v28) (ix1 ⟨e.val, h⟩))) else 1#1 := by
  after_reads_at

theorem v36_at (j : Fin 10000) (l : Fin 128) : StableHlo.after hostOps0_5 V (Proc.devRef .tc main_v36) (ix2 j l) =
    ∑ k : Fin 128, (num (V (Proc.devRef .tc main_arg0) (ix2 j k))) * (num (V (Proc.devRef .tc main_arg3) (ix2 k l))) := by
  after_reads_at

theorem v37_at (j : Fin 10000) (l : Fin 128) : StableHlo.after hostOps0_5 V (Proc.devRef .tc main_v37) (ix2 j l) =
    ∑ k : Fin 128, (num (V (Proc.devRef .tc main_arg0) (ix2 j k))) * (num (V (Proc.devRef .tc main_arg4) (ix2 k l))) := by
  after_reads_at

theorem v38_at (j : Fin 10000) (l : Fin 128) : StableHlo.after hostOps0_5 V (Proc.devRef .tc main_v38) (ix2 j l) =
    ∑ k : Fin 128, (num (V (Proc.devRef .tc main_arg0) (ix2 j k))) * (num (V (Proc.devRef .tc main_arg5) (ix2 k l))) := by
  after_reads_at

theorem v57_eq : StableHlo.after hostOps0_5 V (Proc.devRef .tc main_v57) =
    addf (Host.dotGeneral (F := Ideal) dot_S170000x6_S6x64_S170000x64_1_0_0_1_n_n none (φ₁ := .f32) (φ₂ := .f32)
      (subf (rows6 (V (Proc.devRef .tc main_arg1)) (StableHlo.after hostOps0_5 V (Proc.devRef .tc main_v32)))
        (rows6 (V (Proc.devRef .tc main_arg1)) (StableHlo.after hostOps0_5 V (Proc.devRef .tc main_v33)))) (V (Proc.devRef .tc main_arg6)))
      (broadcastInDim S170000x64 ![0, 1] bcast_S1x64_S170000x64_0_1 (broadcastInDim S1x64 ![1] bcast_S64_S1x64_1 (V (Proc.devRef .tc main_arg7)))) := by
  rw [v32_eq, v33_eq]
  after_reads_simp
  rfl

theorem v57_at (row col : Fin 170000 → Fin 10000) (hr : ∀ e, StableHlo.after hostOps0_5 V (Proc.devRef .tc main_v32) (ix1 e) = word (row e).val)
    (hc : ∀ e, StableHlo.after hostOps0_5 V (Proc.devRef .tc main_v33) (ix1 e) = word (col e).val) (e : Fin 170000) (k : Fin 64) :
    StableHlo.after hostOps0_5 V (Proc.devRef .tc main_v57) (ix2 e k) =
      ∑ d : Fin 6, ((num (V (Proc.devRef .tc main_arg1) (ix2 (row e) d))) - (num (V (Proc.devRef .tc main_arg1) (ix2 (col e) d)))) * (num (V (Proc.devRef .tc main_arg6) (ix2 d k)))
        + (num (V (Proc.devRef .tc main_arg7) (ix1 k))) := by
  rw [v57_eq]
  have h1 := rows6_at _ row hr (V (Proc.devRef .tc main_arg1)) e
  have h2 := rows6_at _ col hc (V (Proc.devRef .tc main_arg1)) e
  generalize rows6 (V (Proc.devRef .tc main_arg1)) (StableHlo.after hostOps0_5 V (Proc.devRef .tc main_v32)) = a at h1 ⊢
  generalize rows6 (V (Proc.devRef .tc main_arg1)) (StableHlo.after hostOps0_5 V (Proc.devRef .tc main_v33)) = b at h2 ⊢
  pointwise
  simp only [h1, h2]

theorem v58_at (e : Fin 170000) (k : Fin 64) : StableHlo.after hostOps0_6 V (Proc.devRef .tc main_v58) (ix2 e k) =
    max (num (V (Proc.devRef .tc main_v57) (ix2 e k))) 0 := by
  after_reads_at

theorem v62_at (e : Fin 170000) (l : Fin 128) : StableHlo.after hostOps0_7 V (Proc.devRef .tc main_v62) (ix2 e l) =
    ∑ k : Fin 64, (num (V (Proc.devRef .tc main_v58) (ix2 e k))) * (num (V (Proc.devRef .tc main_arg8) (ix2 k l))) + (num (V (Proc.devRef .tc main_arg9) (ix1 l))) := by
  after_reads_at

theorem v63_at (e : Fin 170000) (l : Fin 128) : StableHlo.after hostOps0_8 V (Proc.devRef .tc main_v63) (ix2 e l) =
    max (num (V (Proc.devRef .tc main_v62) (ix2 e l))) 0 := by
  after_reads_at

theorem v83_eq : StableHlo.after hostOps0_9 V (Proc.devRef .tc main_v83) =
    addf (Host.dotGeneral (F := Ideal) dot_S170000x128_S128x128_S170000x128_1_0_0_1_n_n none (φ₁ := .f32) (φ₂ := .f32)
      (addf (subf (rows128 (V (Proc.devRef .tc main_v38)) (V (Proc.devRef .tc main_v32)))
        (rows128 (V (Proc.devRef .tc main_v37)) (V (Proc.devRef .tc main_v33)))) (V (Proc.devRef .tc main_v63))) (V (Proc.devRef .tc main_arg10)))
      (broadcastInDim S170000x128 ![0, 1] bcast_S1x128_S170000x128_0_1 (broadcastInDim S1x128 ![1] bcast_S128_S1x128_1 (V (Proc.devRef .tc main_arg11)))) := by
  after_reads_simp
  rfl

section
variable (row col : Fin 170000 → Fin 10000) (hr : ∀ e, V (Proc.devRef .tc main_v32) (ix1 e) = word (row e).val)
    (hc : ∀ e, V (Proc.devRef .tc main_v33) (ix1 e) = word (col e).val)
include hr

theorem v92_at (r : Fin 10000) (e : Fin 170000) : StableHlo.after hostOps0_11 V (Proc.devRef .tc main_v92) (ix3 r e 0) =
    IntOp.cmpi .eq (word (row e).val) (word r.val) := by
  after_reads_at
  rw [hr]

include hc

theorem v83_at (e : Fin 170000) (l : Fin 128) : StableHlo.after hostOps0_9 V (Proc.devRef .tc main_v83) (ix2 e l) =
    ∑ k : Fin 128, ((num (V (Proc.devRef .tc main_v38) (ix2 (row e) k))) - (num (V (Proc.devRef .tc main_v37) (ix2 (col e) k))) + (num (V (Proc.devRef .tc main_v63) (ix2 e k))))
      * (num (V (Proc.devRef .tc main_arg10) (ix2 k l))) + (num (V (Proc.devRef .tc main_arg11) (ix1 l))) := by
  rw [v83_eq]
  have h1 := rows128_at _ row hr (V (Proc.devRef .tc main_v38)) e
  have h2 := rows128_at _ col hc (V (Proc.devRef .tc main_v37)) e
  generalize rows128 (V (Proc.devRef .tc main_v38)) (V (Proc.devRef .tc main_v32)) = a at h1 ⊢
  generalize rows128 (V (Proc.devRef .tc main_v37)) (V (Proc.devRef .tc main_v33)) = b at h2 ⊢
  pointwise
  simp only [h1, h2]

end

theorem v84_at (e : Fin 170000) : StableHlo.after hostOps0_9 V (Proc.devRef .tc main_v84) (ix2 e 0) = V (Proc.devRef .tc main_v35) (ix1 e) := by
  after_reads_at

theorem cst18_at : StableHlo.after hostOps0_9 V (Proc.devRef .tc main_cst_18) = constant (F := Ideal) S_ .f32 0xF149F2CA#32 := by
  after_reads_simp

theorem v85_at (h : V (Proc.devRef .tc main_cst_18) = constant (F := Ideal) S_ .f32 0xF149F2CA#32) (e : Fin 170000) (l : Fin 128) :
    StableHlo.after hostOps0_10 V (Proc.devRef .tc main_v85) (ix2 e l) =
      Scalar.select (V (Proc.devRef .tc main_v84) (ix2 e 0)) (V (Proc.devRef .tc main_v83) (ix2 e l)) low := by
  after_reads_at
  rw [h]
  rfl

theorem v93_at (e : Fin 170000) (l : Fin 128) : StableHlo.after hostOps0_11 V (Proc.devRef .tc main_v93) (ix3 0 e l) = V (Proc.devRef .tc main_v85) (ix2 e l) := by
  after_reads_at

theorem cst19_at : StableHlo.after hostOps0_11 V (Proc.devRef .tc main_cst_19) = constant (F := Ideal) S_ .f32 0xFF800000#32 := by
  after_reads_simp

theorem v94_at (h : V (Proc.devRef .tc main_cst_19) = constant (F := Ideal) S_ .f32 0xFF800000#32) (r : Fin 10000) (e : Fin 170000) (l : Fin 128) :
    StableHlo.after hostOps0_12 V (Proc.devRef .tc main_v94) (ix3 r e l) =
      Scalar.select (V (Proc.devRef .tc main_v92) (ix3 r e 0)) (num (V (Proc.devRef .tc main_v93) (ix3 0 e l))) ⊥ := by
  after_reads_at
  rw [h]
  exact congrArg (Scalar.select _ _) Const.bot_bits

end Cert.ReferenceIdeal.Host

end
-- ==== Proof.RefMax.lean ====
/-
  The largest of the edges of every row, as the reference finds it.
-/
module

public import proofs.«01_k».proof.Proof.RefOps

@[expose] public section

set_option maxRecDepth 16384

noncomputable section

namespace Cert.ReferenceIdeal.Max

open Cert.ReferenceIdeal Cert.ReferenceIdeal.Gen Cert.Rank Cert.Net Cert.ReferenceIdeal.Ops
open Idealize.ShloMosaic Idealize.ShloMosaic.TcCoe Idealize.ShloMosaic.Pointwise Idealize.ShloMosaic.Tactic

variable (V : Valuation τ sig (Elt Ideal))

/-- The largest of the edges' values. -/
abbrev largest (f : Fin 170000 → EReal) : EReal := Finset.fold max ⊥ f Finset.univ

theorem max_at (x : FVec Ideal S10000x170000x128 .f32) (v : FVec Ideal S_ .f32) (r : Fin 10000) (l : Fin 128) :
    Host.reduce FloatOps.maximumf x v reducesTo_S10000x170000x128_S10000x128_d1 h_S_ (ix2 r l)
      = Finset.fold max (v (Shape.Idx.first h_S_)) (fun e => x (ix3 r e l)) Finset.univ := by
  pointwise

theorem v95_eq : StableHlo.after hostOps0_13 V (Proc.devRef .tc main_v95) =
    Host.reduce (α := Ideal .f32) FloatOps.maximumf (V (Proc.devRef .tc main_v94)) (constant S_ .f32 0xFF800000#32)
      reducesTo_S10000x170000x128_S10000x128_d1 h_S_ := by
  after_reads_simp

theorem v95_at (r : Fin 10000) (l : Fin 128) :
    StableHlo.after hostOps0_13 V (Proc.devRef .tc main_v95) (ix2 r l) =
      largest fun e => V (Proc.devRef .tc main_v94) (ix3 r e l) := by
  rw [v95_eq, max_at]
  show Finset.fold (β := EReal) max (Ideal.ofBits FTy.f32 0xFF800000#32) _ _ = _
  rw [Const.bot_bits]

theorem v98_eq : StableHlo.after hostOps0_13 V (Proc.devRef .tc main_v98) =
    cmpf (F := Ideal) .olt (Host.absf (StableHlo.after hostOps0_13 V (Proc.devRef .tc main_v95)))
      (broadcastInDim S10000x128 ![] bcast_S_S10000x128 (constant S_ .f32 0x7F800000#32)) := by
  rw [v95_eq]
  after_reads_simp

theorem finite_at (x : FVec Ideal S10000x128 .f32) (r : Fin 10000) (l : Fin 128) (h : IsReal (x (ix2 r l))) :
    cmpf (F := Ideal) .olt (Host.absf x)
      (broadcastInDim S10000x128 ![] bcast_S_S10000x128 (constant S_ .f32 0x7F800000#32)) (ix2 r l) = 1#1 := by
  obtain ⟨a, h⟩ := h
  pointwise
  rw [h]
  rw [show FloatOps.absf (a : EReal) = _ from Ideal.absf_def _, Const.top_bits, decide_eq_true]
  · rfl
  exact max_lt (EReal.coe_lt_top a) (EReal.coe_neg a ▸ EReal.coe_lt_top (-a))

theorem cst22_at : StableHlo.after hostOps0_13 V (Proc.devRef .tc main_cst_22) = constant (F := Ideal) S_ .f32 0x00000000#32 := by
  after_reads_simp

theorem v99_at (r : Fin 10000) (l : Fin 128) :
    StableHlo.after hostOps0_14 V (Proc.devRef .tc main_v99) (ix2 r l) =
     Scalar.select (V (Proc.devRef .tc main_v98) (ix2 r l)) (V (Proc.devRef .tc main_v95) (ix2 r l)) (V (Proc.devRef .tc main_cst_22) ix0) := by
  after_reads_at
  try rfl

end Cert.ReferenceIdeal.Max

end
-- ==== Proof.RefLast.lean ====
/-
  The reference's last stretch: the weights of the edges, their sums at the rows, the weighted sums of the values.
-/
module

public import proofs.«01_k».proof.Proof.RefOps

@[expose] public section

set_option maxRecDepth 16384

noncomputable section

namespace Cert.ReferenceIdeal.Last

open Cert.ReferenceIdeal Cert.ReferenceIdeal.Gen Cert.Rank Cert.Net Cert.ReferenceIdeal.Ops
open Idealize.ShloMosaic Idealize.ShloMosaic.TcCoe Idealize.ShloMosaic.Pointwise Idealize.ShloMosaic.Tactic

variable (V : Valuation τ sig (Elt Ideal))

/-- The edges' weights: the exponential of the logit less the row's largest, nothing where the mask is off. -/
def weights (a : FVec Ideal S170000x128 .f32) (t : FVec Ideal S10000x128 .f32) (b : IVec S170000 1) (w : IVec S170000 32) : FVec Ideal S170000x128 .f32 :=
  mulf (Host.exp (subf a (rows128 t w))) (broadcastInDim S170000x128 ![0, 1] bcast_S170000x1_S170000x128_0_1
    (uitofp .f32 (broadcastInDim S170000x1 ![0] bcast_S170000_S170000x1_0 b)))

/-- The edges' shares: the weights over the sums of the weights at their rows. -/
def shares (x : FVec Ideal S170000x128 .f32) (w : IVec S170000 32) : FVec Ideal S170000x128 .f32 :=
  Host.divf x (maximumf (rows128 (sums w x) w) (broadcastInDim S170000x128 ![] bcast_S_S170000x128 (constant S_ .f32 0x24E69595#32)))

theorem v137_eq : StableHlo.after hostOps0_15 V (Proc.devRef .tc main_v137) =
    sums (V (Proc.devRef .tc main_v32)) (mulf (shares (weights (V (Proc.devRef .tc main_v85)) (V (Proc.devRef .tc main_v99))
      (V (Proc.devRef .tc main_v35)) (V (Proc.devRef .tc main_v32))) (V (Proc.devRef .tc main_v32)))
      (addf (rows128 (V (Proc.devRef .tc main_v36)) (V (Proc.devRef .tc main_v33))) (V (Proc.devRef .tc main_v63)))) := by
  after_reads_simp
  rfl

variable (w : IVec S170000 32) (n : Fin 170000 → Fin 10000) (hn : ∀ e, w (ix1 e) = word (n e).val)

include hn

theorem weights_at (a : FVec Ideal S170000x128 .f32) (t : FVec Ideal S10000x128 .f32) (b : IVec S170000 1) (e : Fin 170000) (l : Fin 128) :
    weights a t b w (ix2 e l) = Ideal.exp (a (ix2 e l) - t (ix2 (n e) l)) * (((b (ix1 e)).toNat : ℝ) : EReal) := by
  have h := rows128_at w n hn t e l
  unfold weights
  generalize rows128 t w = q at h ⊢
  pointwise
  rw [h]
  try rfl

theorem shares_at (x : FVec Ideal S170000x128 .f32) (e : Fin 170000) (l : Fin 128) :
    shares x w (ix2 e l) = Ideal.div (x (ix2 e l)) (max (∑ f ∈ Finset.univ.filter (fun f => n f = n e), x (ix2 f l)) eps) := by
  have h := (rows128_at w n hn (sums w x) e l).trans (sums_at w n hn x (n e) l)
  unfold shares
  generalize rows128 (sums w x) w = q at h ⊢
  pointwise
  rw [h]
  try rfl

variable (z : IVec S170000 32) (col : Fin 170000 → Fin 10000) (hc : ∀ e, z (ix1 e) = word (col e).val)
include hc

/-- The weighted sum of the values at a row. -/
theorem result_at (x d : FVec Ideal S170000x128 .f32) (t : FVec Ideal S10000x128 .f32) (r : Fin 10000) (l : Fin 128) :
    sums w (mulf (shares x w) (addf (rows128 t z) d)) (ix2 r l) =
      ∑ e ∈ Finset.univ.filter (fun e => n e = r),
        Ideal.div (x (ix2 e l)) (max (∑ f ∈ Finset.univ.filter (fun f => n f = r), x (ix2 f l)) eps) * (t (ix2 (col e) l) + d (ix2 e l)) := by
  rw [sums_at w n hn]
  refine Finset.sum_congr rfl fun e he => ?_
  have h1 := shares_at w n hn x e l
  rw [(Finset.mem_filter.1 he).2] at h1
  have h2 := rows128_at z col hc t e l
  generalize shares x w = q at h1 ⊢
  generalize rows128 t z = p at h2 ⊢
  pointwise
  rw [h1, h2]

end Cert.ReferenceIdeal.Last

end
-- ==== Proof.RefEdges.lean ====
/-
  The reference's list of edges: every row's slots and own loop, with their logits, masks and values.
-/
module

public import proofs.«01_k».proof.Proof.RefNbr
public import proofs.«01_k».proof.Proof.RefHost
public import proofs.«01_k».proof.Proof.RefMax
public import proofs.«01_k».proof.Proof.RefLast

@[expose] public section

set_option maxRecDepth 16384

noncomputable section

namespace Cert.ReferenceIdeal.Whole

open Cert.ReferenceIdeal Cert.ReferenceIdeal.Gen Cert.ReferenceIdeal.Value Cert.Rank Cert.Net
open Idealize.ShloMosaic Idealize.ShloMosaic.TcCoe
open Idealize.SL Idealize.SL.Sem

section Edges

variable (N : Args)

/-- The source of an edge. -/
def source (e : Fin 170000) : Fin 10000 :=
  if h : e.val < 160000 then col N (e.val / 64) ⟨e.val % 64, by omega⟩ else ⟨e.val - 160000, by omega⟩

/-- The edge counts. -/
def counts (e : Fin 170000) : Prop := ∀ _ : e.val < 160000, edge N (e.val / 64) ⟨e.val % 64, by omega⟩

theorem slot_parts (r : Fin 2500) (s : Fin 64) : (slotEdge r s).val / 64 = r.val ∧ (⟨(slotEdge r s).val % 64, by omega⟩ : Fin 64) = s := by
  unfold slotEdge
  exact ⟨by dsimp only; omega, Fin.ext (by dsimp only; omega)⟩

theorem source_slot (r : Fin 2500) (s : Fin 64) : source N (slotEdge r s) = col N r.val s := by
  obtain ⟨h1, h2⟩ := slot_parts r s
  unfold source
  rw [dif_pos (show (slotEdge r s).val < 160000 by unfold slotEdge; dsimp only; omega), h1, h2]

theorem source_loop (r : Fin 10000) : source N (loopEdge r) = r := by
  unfold source
  rw [dif_neg (show ¬ (loopEdge r).val < 160000 by unfold loopEdge; dsimp only; omega)]
  exact Fin.ext (by unfold loopEdge; dsimp only; omega)

theorem counts_slot (r : Fin 2500) (s : Fin 64) : counts N (slotEdge r s) ↔ edge N r.val s := by
  obtain ⟨h1, h2⟩ := slot_parts r s
  unfold counts
  rw [h1, h2]
  exact ⟨fun h => h (by unfold slotEdge; dsimp only; omega), fun h _ => h⟩

theorem counts_loop (r : Fin 10000) : counts N (loopEdge r) := fun h => absurd h (by unfold loopEdge; dsimp only; omega)

/-- The edge's position term, logit and value. -/
abbrev term (e : Fin 170000) (l : Fin 128) : EReal := delta N (N.pos (row e)) (N.pos (source N e)) l
abbrev score (e : Fin 170000) (l : Fin 128) : EReal := logit N (dst N (row e)) (src N (source N e)) (term N e) l
abbrev worth (e : Fin 170000) (l : Fin 128) : EReal := xv N (source N e) l + term N e l

/-- The largest logit of a row. -/
def most (r : Fin 10000) (l : Fin 128) : EReal :=
  Finset.fold max ⊥ (fun e => keep (counts N e) (score N e l)) (Finset.univ.filter fun e => row e = r)

variable (m : (ℓ : Loc nD τ sig) → Buf (Elt Ideal) ℓ) (c : Dev nD)

/-- The layer's arguments on a device. -/
def args : Args where
  x j k := m ((c.tc : Thread nD τ).loc main_arg0) (ix2 j k)
  pos := Loop.points m c
  wl k l := m ((c.tc : Thread nD τ).loc main_arg3) (ix2 k l)
  ws k l := m ((c.tc : Thread nD τ).loc main_arg4) (ix2 k l)
  wd k l := m ((c.tc : Thread nD τ).loc main_arg5) (ix2 k l)
  p1 d k := m ((c.tc : Thread nD τ).loc main_arg6) (ix2 d k)
  b1 k := m ((c.tc : Thread nD τ).loc main_arg7) (ix1 k)
  p2 k l := m ((c.tc : Thread nD τ).loc main_arg8) (ix2 k l)
  b2 l := m ((c.tc : Thread nD τ).loc main_arg9) (ix1 l)
  wa k l := m ((c.tc : Thread nD τ).loc main_arg10) (ix2 k l)
  ba l := m ((c.tc : Thread nD τ).loc main_arg11) (ix1 l)

/-- Up to the edges' stretch an argument is as at launch. -/
theorem X4_arg (r : Ref sig .tc) (h0 : r ∉ hostOps0_W) (h1 : r ∉ condOps_W) (h2 : r ∉ while0Ops0_W) (g1 : r ∉ hostOps0_1_W) (g2 : r ∉ hostOps0_2_W)
    (g3 : r ∉ hostOps0_3_W) (g4 : r ∉ hostOps0_4_W) : X4 m c (Proc.devRef .tc r) = m ((c.tc : Thread nD τ).loc r) := by
  rw [X4_of m c r g4, X3_of m c r g3, X2_of m c r g2, X1_of m c r g1, X0_of m c r h0 h1 h2]

end Edges

section Values

variable (m : (ℓ : Loc nD τ sig) → Buf (Elt Ideal) ℓ) (c : Dev nD) (hN : (args m c).Finite)

theorem row_at (e : Fin 170000) : X5 m c (Proc.devRef .tc main_v32) (ix1 e) = word (row e).val := by
  refine (Host.v32_at (X4 m c) e).trans ?_
  rcases edge_cases e with ⟨r, s, rfl⟩ | ⟨r, rfl⟩
  · rw [dif_pos (show (slotEdge r s).val < 160000 by unfold slotEdge; dsimp only; omega), row_slot]
    exact Nbr.X4_v25 m c r s
  · rw [dif_neg (show ¬ (loopEdge r).val < 160000 by unfold loopEdge; dsimp only; omega), row_loop]
    exact congrArg word (show 160000 + r.val - 160000 = r.val by omega)

include hN

theorem source_at (e : Fin 170000) : X5 m c (Proc.devRef .tc main_v33) (ix1 e) = word (source (args m c) e).val := by
  refine (Host.v33_at (X4 m c) e).trans ?_
  rcases edge_cases e with ⟨r, s, rfl⟩ | ⟨r, rfl⟩
  · rw [dif_pos (show (slotEdge r s).val < 160000 by unfold slotEdge; dsimp only; omega), source_slot]
    exact Nbr.X4_v28 m c hN.pos r s
  · rw [dif_neg (show ¬ (loopEdge r).val < 160000 by unfold loopEdge; dsimp only; omega), source_loop]
    exact congrArg word (show 160000 + r.val - 160000 = r.val by omega)

theorem counts_at (e : Fin 170000) [Decidable (counts (args m c) e)] : X5 m c (Proc.devRef .tc main_v35) (ix1 e) = BitVec.ofBool (decide (counts (args m c) e)) := by
  classical
  refine (Host.v35_at (X4 m c) e).trans ?_
  rcases edge_cases e with ⟨r, s, rfl⟩ | ⟨r, rfl⟩
  · rw [dif_pos (show (slotEdge r s).val < 160000 by unfold slotEdge; dsimp only; omega)]
    have h5 := Nbr.X4_v25 m c r s
    have h7 := Nbr.X4_v27 m c hN.pos r s
    have h8 := Nbr.X4_v28 m c hN.pos r s
    refine (congrArg₂ IntOp.andi h7 (congrArg₂ (IntOp.cmpi .ne) h5 h8)).trans ?_
    have : Decidable (edge (args m c) r.val s) := Classical.propDecidable _
    rw [WordCmp.cmpi_ne_eq, WordCmp.andi_ofBool, decide_eq_decide.2 (counts_slot (args m c) r s)]
    congr 1
    rw [Bool.eq_iff_iff, decide_eq_true_iff]
    unfold edge
    have hw := word_inj (a := r.val) (b := (col (args m c) r.val s).val) (by omega) (by have := (col (args m c) r.val s).isLt; omega)
    rw [Bool.and_eq_true, decide_eq_true_iff, decide_eq_true_iff]
    exact and_congr Iff.rfl (not_congr (hw.trans eq_comm))
  · rw [dif_neg (show ¬ (loopEdge r).val < 160000 by unfold loopEdge; dsimp only; omega), decide_eq_true (counts_loop (args m c) r)]
    rfl

omit hN

theorem xv_at (j : Fin 10000) (l : Fin 128) : X5 m c (Proc.devRef .tc main_v36) (ix2 j l) = xv (args m c) j l := by
  refine (Host.v36_at (X4 m c) j l).trans ?_
  rw [X4_arg m c main_arg0 (by decide) (by decide) (by decide) (by decide) (by decide) (by decide) (by decide), X4_arg m c main_arg3 (by decide) (by decide) (by decide) (by decide) (by decide) (by decide) (by decide)]
  rfl

theorem src_at (j : Fin 10000) (l : Fin 128) : X5 m c (Proc.devRef .tc main_v37) (ix2 j l) = src (args m c) j l := by
  refine (Host.v37_at (X4 m c) j l).trans ?_
  rw [X4_arg m c main_arg0 (by decide) (by decide) (by decide) (by decide) (by decide) (by decide) (by decide), X4_arg m c main_arg4 (by decide) (by decide) (by decide) (by decide) (by decide) (by decide) (by decide)]
  rfl

theorem dst_at (j : Fin 10000) (l : Fin 128) : X5 m c (Proc.devRef .tc main_v38) (ix2 j l) = dst (args m c) j l := by
  refine (Host.v38_at (X4 m c) j l).trans ?_
  rw [X4_arg m c main_arg0 (by decide) (by decide) (by decide) (by decide) (by decide) (by decide) (by decide), X4_arg m c main_arg5 (by decide) (by decide) (by decide) (by decide) (by decide) (by decide) (by decide)]
  rfl

include hN

/-- The edge's position term. -/
theorem term_at (e : Fin 170000) (l : Fin 128) : X8 m c (Proc.devRef .tc main_v63) (ix2 e l) = term (args m c) e l := by
  have h8 : X6 m c (Proc.devRef .tc main_arg8) = m ((c.tc : Thread nD τ).loc main_arg8) := by
    rw [X6_of m c _ (by decide), X5_of m c _ (by decide), X4_arg m c main_arg8 (by decide) (by decide) (by decide) (by decide) (by decide) (by decide) (by decide)]
  have h9 : X6 m c (Proc.devRef .tc main_arg9) = m ((c.tc : Thread nD τ).loc main_arg9) := by
    rw [X6_of m c _ (by decide), X5_of m c _ (by decide), X4_arg m c main_arg9 (by decide) (by decide) (by decide) (by decide) (by decide) (by decide) (by decide)]
  have h57 := fun k => Host.v57_at (X4 m c) _ _ (row_at m c) (source_at m c hN) e k
  have h58 : ∀ k, X6 m c (Proc.devRef .tc main_v58) (ix2 e k) = max (∑ d, ((args m c).pos (row e) d - (args m c).pos (source (args m c) e) d) * (args m c).p1 d k + (args m c).b1 k) 0 := by
    intro k
    refine (Host.v58_at (X5 m c) e k).trans (congrArg (fun z : EReal => max z 0) ((h57 k).trans ?_))
    rw [X4_arg m c main_arg1 (by decide) (by decide) (by decide) (by decide) (by decide) (by decide) (by decide), X4_arg m c main_arg6 (by decide) (by decide) (by decide) (by decide) (by decide) (by decide) (by decide), X4_arg m c main_arg7 (by decide) (by decide) (by decide) (by decide) (by decide) (by decide) (by decide)]
    rfl
  refine (Host.v63_at (X7 m c) e l).trans (congrArg (fun z : EReal => max z 0) ((Host.v62_at (X6 m c) e l).trans ?_))
  rw [h8, h9]
  simp only [Host.num, h58]
  rfl

/-- The edge's logit. -/
theorem score_at (e : Fin 170000) (l : Fin 128) : X9 m c (Proc.devRef .tc main_v83) (ix2 e l) = score (args m c) e l := by
  have hr : ∀ e, X8 m c (Proc.devRef .tc main_v32) (ix1 e) = word (row e).val := fun e => by
    rw [X8_of m c _ (by decide), X7_of m c _ (by decide), X6_of m c _ (by decide)]; exact row_at m c e
  have hc : ∀ e, X8 m c (Proc.devRef .tc main_v33) (ix1 e) = word (source (args m c) e).val := fun e => by
    rw [X8_of m c _ (by decide), X7_of m c _ (by decide), X6_of m c _ (by decide)]; exact source_at m c hN e
  have hd : ∀ k, X8 m c (Proc.devRef .tc main_v38) (ix2 (row e) k) = dst (args m c) (row e) k := fun k => by
    rw [X8_of m c _ (by decide), X7_of m c _ (by decide), X6_of m c _ (by decide)]; exact dst_at m c _ k
  have hs : ∀ k, X8 m c (Proc.devRef .tc main_v37) (ix2 (source (args m c) e) k) = src (args m c) (source (args m c) e) k := fun k => by
    rw [X8_of m c _ (by decide), X7_of m c _ (by decide), X6_of m c _ (by decide)]; exact src_at m c _ k
  have h10 : X8 m c (Proc.devRef .tc main_arg10) = m ((c.tc : Thread nD τ).loc main_arg10) := by
    rw [X8_of m c _ (by decide), X7_of m c _ (by decide), X6_of m c _ (by decide), X5_of m c _ (by decide), X4_arg m c main_arg10 (by decide) (by decide) (by decide) (by decide) (by decide) (by decide) (by decide)]
  have h11 : X8 m c (Proc.devRef .tc main_arg11) = m ((c.tc : Thread nD τ).loc main_arg11) := by
    rw [X8_of m c _ (by decide), X7_of m c _ (by decide), X6_of m c _ (by decide), X5_of m c _ (by decide), X4_arg m c main_arg11 (by decide) (by decide) (by decide) (by decide) (by decide) (by decide) (by decide)]
  refine (Host.v83_at (X8 m c) _ _ hr hc e l).trans ?_
  rw [h10, h11]
  have ht := term_at m c hN e
  simp only [Host.num, hd, hs, ht]
  rfl

/-- The edge's logit, kept where the edge counts. -/
theorem kept_at (e : Fin 170000) (l : Fin 128) : X10 m c (Proc.devRef .tc main_v85) (ix2 e l) = keep (counts (args m c) e) (score (args m c) e l) := by
  classical
  have h35 : X8 m c (Proc.devRef .tc main_v35) (ix1 e) = BitVec.ofBool (decide (counts (args m c) e)) := by
    rw [X8_of m c _ (by decide), X7_of m c _ (by decide), X6_of m c _ (by decide)]; exact counts_at m c hN e
  refine (Host.v85_at (X9 m c) (Host.cst18_at (X8 m c)) e l).trans ?_
  have h84 := (Host.v84_at (X8 m c) e).trans h35
  have h83 := score_at m c hN e l
  refine (congrArg₂ (fun (b : BitVec 1) (z : EReal) => Scalar.select b z low) h84 h83).trans ?_
  unfold keep
  by_cases h : counts (args m c) e
  · rw [decide_eq_true h, if_pos h]; exact if_pos rfl
  · rw [decide_eq_false h, if_neg h]; rfl

/-- The row's largest logit. -/
theorem most_at (r : Fin 10000) (l : Fin 128) : X13 m c (Proc.devRef .tc main_v95) (ix2 r l) = most (args m c) r l := by
  have hr : ∀ e, X10 m c (Proc.devRef .tc main_v32) (ix1 e) = word (row e).val := fun e => by
    rw [X10_of m c _ (by decide), X9_of m c _ (by decide), X8_of m c _ (by decide), X7_of m c _ (by decide), X6_of m c _ (by decide)]; exact row_at m c e
  have h94 : ∀ e, X12 m c (Proc.devRef .tc main_v94) (ix3 r e l) = if row e = r then keep (counts (args m c) e) (score (args m c) e l) else ⊥ := fun e => by
    refine (Host.v94_at (X11 m c) (Host.cst19_at (X10 m c)) r e l).trans ?_
    refine (congrArg₂ (fun (b : BitVec 1) (z : EReal) => Scalar.select b z ⊥) (Host.v92_at (X10 m c) _ hr r e)
      ((Host.v93_at (X10 m c) e l).trans (kept_at m c hN e l))).trans ?_
    refine (select_word (by omega) (by omega) _ _).trans ?_
    simp only [Fin.ext_iff]
  refine (Max.v95_at (X12 m c) r l).trans ?_
  unfold most
  rw [← max_filter]
  exact congrArg Max.largest (funext h94)

end Values

end Cert.ReferenceIdeal.Whole

end
-- ==== Proof.RefValue.lean ====
/-
  The reference's result: each row's masked softmax over its slots and its own loop.
-/
module

public import proofs.«01_k».proof.Proof.RefEdges

@[expose] public section

set_option maxRecDepth 16384

noncomputable section

namespace Cert.ReferenceIdeal.Whole

open Cert.ReferenceIdeal Cert.ReferenceIdeal.Gen Cert.ReferenceIdeal.Value Cert.Rank Cert.Net
open Idealize.ShloMosaic Idealize.ShloMosaic.TcCoe
open Idealize.SL Idealize.SL.Sem

section Rows

variable {N : Args} (hN : N.Finite)

/-- The weight of an edge. -/
def weight (N : Args) (e : Fin 170000) (l : Fin 128) : EReal :=
  Ideal.exp (keep (counts N e) (score N e l) - most N (row e) l) * ind (counts N e)

/-- The row's edges, each by its share of the weights. -/
def total (N : Args) (r : Fin 10000) (l : Fin 128) : EReal :=
  ∑ e ∈ Finset.univ.filter (fun e => row e = r),
    Ideal.div (weight N e l) (max (∑ f ∈ Finset.univ.filter (fun f => row f = r), weight N f l) eps) * worth N e l

theorem keep_counts_slot (r : Fin 2500) (s : Fin 64) (l : Fin 128) : keep (counts N (slotEdge r s)) (score N (slotEdge r s) l)
    = keep (edge N r.val s) (aslot N ⟨r.val, by omega⟩ s l) := by
  rw [show counts N (slotEdge r s) = edge N r.val s from propext (counts_slot N r s)]
  unfold score term aslot
  rw [row_slot, source_slot]

theorem score_slot (r : Fin 2500) (s : Fin 64) (l : Fin 128) : score N (slotEdge r s) l = aslot N ⟨r.val, by omega⟩ s l := by
  unfold score term aslot
  rw [row_slot, source_slot]

theorem worth_slot (r : Fin 2500) (s : Fin 64) (l : Fin 128) : worth N (slotEdge r s) l = vslot N ⟨r.val, by omega⟩ s l := by
  unfold worth term vslot
  rw [row_slot, source_slot]

theorem ind_true {p : Prop} (h : p) : ind p = 1 := by unfold ind; exact if_pos h

theorem keep_true {p : Prop} (h : p) (a : EReal) : keep p a = a := by unfold keep; exact if_pos h

include hN

theorem score_loop (r : Fin 10000) (l : Fin 128) : score N (loopEdge r) l = aloop N r l := by
  have h : term N (loopEdge r) = delta0 N := by
    funext k
    unfold term
    rw [row_loop, source_loop, delta_self hN]
  unfold score aloop
  rw [row_loop, source_loop, h]

theorem worth_loop (r : Fin 10000) (l : Fin 128) : worth N (loopEdge r) l = vloop N r l := by
  unfold worth term vloop
  rw [row_loop, source_loop, delta_self hN]

theorem most_head (r : Fin 2500) (l : Fin 128) : most N ⟨r.val, by omega⟩ l
    = top (edge N r.val) (fun s => aslot N ⟨r.val, by omega⟩ s l) (aloop N ⟨r.val, by omega⟩ l) := by
  unfold most top
  rw [max_head]
  simp only [keep_counts_slot, keep_true (counts_loop N _), score_loop hN]

theorem most_tail (r : Fin 10000) (hr : 2500 ≤ r.val) (l : Fin 128) : most N r l = aloop N r l := by
  unfold most
  rw [max_tail _ _ hr, keep_true (counts_loop N _), score_loop hN]

theorem most_real (r : Fin 10000) (l : Fin 128) : IsReal (most N r l) := by
  by_cases hr : r.val < 2500
  · have h := most_head hN ⟨r.val, hr⟩ l
    refine h ▸ top_real (fun s => aslot_real hN _ s l) (aloop_real hN _ l)
  · rw [most_tail hN r (by omega)]
    exact aloop_real hN r l

theorem total_head (q : Fin 2500) (l : Fin 128) : total N ⟨q.val, by omega⟩ l
    = soft (edge N q.val) (fun s => aslot N ⟨q.val, by omega⟩ s l) (fun s => vslot N ⟨q.val, by omega⟩ s l) (aloop N ⟨q.val, by omega⟩ l) (vloop N ⟨q.val, by omega⟩ l) := by
  rw [← soft_eq (fun s => aslot_real hN _ s l) (fun s => vslot_real hN _ s l) (aloop_real hN _ l) (vloop_real hN _ l)]
  unfold total den
  rw [sum_head, sum_head]
  unfold weight
  simp only [row_slot, row_loop, most_head hN, score_slot, keep_true (counts_loop N _), score_loop hN, worth_slot, worth_loop hN,
    ind_true (counts_loop N _), mul_one, show ∀ s, counts N (slotEdge q s) = edge N q.val s from fun s => propext (counts_slot N q s)]

/-- The row's edges, each by its share, are the row's masked softmax. -/
theorem total_eq (r : Fin 10000) (l : Fin 128) : total N r l = out N r l := by
  unfold out
  by_cases hr : r.val < 2500
  · rw [if_pos hr]
    exact total_head hN ⟨r.val, hr⟩ l
  · unfold total
    rw [if_neg hr, sum_tail _ _ (by omega), sum_tail _ _ (by omega)]
    unfold weight
    rw [row_loop, most_tail hN r (by omega), keep_true (counts_loop N _), score_loop hN, worth_loop hN, ind_true (counts_loop N _), mul_one]
    exact loop_eq (aloop_real hN r l)

end Rows

variable (m : (ℓ : Loc nD τ sig) → Buf (Elt Ideal) ℓ) (c : Dev nD) (hN : (args m c).Finite)

include hN

theorem base_at (r : Fin 10000) (l : Fin 128) : X14 m c (Proc.devRef .tc main_v99) (ix2 r l) = most (args m c) r l := by
  have h := most_at m c hN r l
  have h98 : X13 m c (Proc.devRef .tc main_v98) (ix2 r l) = 1#1 := by
    have e : X13 m c (Proc.devRef .tc main_v98) = _ := Max.v98_eq (X12 m c)
    rw [e]
    refine Max.finite_at (X13 m c (Proc.devRef .tc main_v95)) r l ?_
    rw [h]
    exact most_real hN r l
  refine (Max.v99_at (X13 m c) r l).trans ?_
  rw [h98]
  exact (if_pos rfl).trans h

/-- The reference's result on a device. -/
theorem value (r : Fin 10000) (l : Fin 128) : X15 m c (Proc.devRef .tc main_v137) (ix2 r l) = out (args m c) r l := by
  classical
  have hr : ∀ e, X14 m c (Proc.devRef .tc main_v32) (ix1 e) = word (row e).val := fun e => by
    rw [X14_of m c _ (by decide), X13_of m c _ (by decide), X12_of m c _ (by decide), X11_of m c _ (by decide), X10_of m c _ (by decide), X9_of m c _ (by decide), X8_of m c _ (by decide), X7_of m c _ (by decide), X6_of m c _ (by decide)]; exact row_at m c e
  have hc : ∀ e, X14 m c (Proc.devRef .tc main_v33) (ix1 e) = word (source (args m c) e).val := fun e => by
    rw [X14_of m c _ (by decide), X13_of m c _ (by decide), X12_of m c _ (by decide), X11_of m c _ (by decide), X10_of m c _ (by decide), X9_of m c _ (by decide), X8_of m c _ (by decide), X7_of m c _ (by decide), X6_of m c _ (by decide)]; exact source_at m c hN e
  have hb : ∀ e, X14 m c (Proc.devRef .tc main_v35) (ix1 e) = BitVec.ofBool (decide (counts (args m c) e)) := fun e => by
    rw [X14_of m c _ (by decide), X13_of m c _ (by decide), X12_of m c _ (by decide), X11_of m c _ (by decide), X10_of m c _ (by decide), X9_of m c _ (by decide), X8_of m c _ (by decide), X7_of m c _ (by decide), X6_of m c _ (by decide)]; exact counts_at m c hN e
  have hx : ∀ j l, X14 m c (Proc.devRef .tc main_v36) (ix2 j l) = xv (args m c) j l := fun j l => by
    rw [X14_of m c _ (by decide), X13_of m c _ (by decide), X12_of m c _ (by decide), X11_of m c _ (by decide), X10_of m c _ (by decide), X9_of m c _ (by decide), X8_of m c _ (by decide), X7_of m c _ (by decide), X6_of m c _ (by decide)]; exact xv_at m c j l
  have hd : ∀ e l, X14 m c (Proc.devRef .tc main_v63) (ix2 e l) = term (args m c) e l := fun e l => by
    rw [X14_of m c _ (by decide), X13_of m c _ (by decide), X12_of m c _ (by decide), X11_of m c _ (by decide), X10_of m c _ (by decide), X9_of m c _ (by decide)]; exact term_at m c hN e l
  have ha : ∀ e l, X14 m c (Proc.devRef .tc main_v85) (ix2 e l) = keep (counts (args m c) e) (score (args m c) e l) := fun e l => by
    rw [X14_of m c _ (by decide), X13_of m c _ (by decide), X12_of m c _ (by decide), X11_of m c _ (by decide)]; exact kept_at m c hN e l
  have ht := base_at m c hN
  rw [← total_eq hN]
  have e : X15 m c (Proc.devRef .tc main_v137) = _ := Last.v137_eq (X14 m c)
  rw [e]
  generalize (X14 m c (Proc.devRef .tc main_v32) : IVec S170000 32) = w at hr ⊢
  generalize (X14 m c (Proc.devRef .tc main_v33) : IVec S170000 32) = z at hc ⊢
  generalize (X14 m c (Proc.devRef .tc main_v35) : IVec S170000 1) = b at hb ⊢
  generalize (X14 m c (Proc.devRef .tc main_v36) : FVec Ideal S10000x128 .f32) = t at hx ⊢
  generalize (X14 m c (Proc.devRef .tc main_v63) : FVec Ideal S170000x128 .f32) = d at hd ⊢
  generalize (X14 m c (Proc.devRef .tc main_v85) : FVec Ideal S170000x128 .f32) = a at ha ⊢
  generalize (X14 m c (Proc.devRef .tc main_v99) : FVec Ideal S10000x128 .f32) = k at ht ⊢
  have hw : ∀ e l, Last.weights a k b w (ix2 e l) = weight (args m c) e l := fun e l => by
    refine (Last.weights_at w _ hr a k b e l).trans ?_
    unfold weight
    rw [ha, ht, hb]
    congr 1
    unfold ind
    by_cases h : counts (args m c) e
    · rw [decide_eq_true h, if_pos h]; simp
    · rw [decide_eq_false h, if_neg h]; simp
  generalize Last.weights a k b w = y at hw ⊢
  refine (Last.result_at w _ hr z _ hc y d t r l).trans ?_
  unfold total
  simp only [hw, hx, hd]

end Cert.ReferenceIdeal.Whole

end
-- ==== Proof.Meet.lean ====
/-
  The two programs meet: from memories that agree on the arguments, and real-valued ones, the kernel's result is the
  reference's.
-/
module

public import proofs.«01_k».proof.Proof.Pre
public import proofs.«01_k».proof.Proof.RefValue

@[expose] public section

set_option maxRecDepth 16384

noncomputable section

namespace Cert.Meet

open Cert.Rank Cert.Net
open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)

/-- The two memories hold the same arguments on a device. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m'}

/-- Then both programs read the same network arguments. -/
theorem args_eq {c : Dev Cert.KernelIdeal.nD} (h : Agree m m' c) :
    Cert.ReferenceIdeal.Whole.args m' c = Cert.KernelIdeal.Whole.args m c := by
  obtain ⟨h0, h1, -, h3, h4, h5, h6, h7, h8, h9, h10, h11⟩ := h
  unfold Cert.ReferenceIdeal.Whole.args Cert.ReferenceIdeal.Loop.points
  simp only [h0, h1, h3, h4, h5, h6, h7, h8, h9, h10, h11]
  rfl

/-- And the reference's first result is the kernel's. -/
theorem result_eq {c : Dev Cert.KernelIdeal.nD} (h : Agree m m' c) (hF : (Cert.KernelIdeal.Whole.args m c).Finite) :
    (Cert.ReferenceIdeal.Value.X15 m' c (Proc.devRef .tc Cert.ReferenceIdeal.main_v137) : FVec Ideal ⟨2, ![10000, 128]⟩ .f32)
      = Cert.KernelIdeal.Gen.W21 m g c (Proc.devRef .tc Cert.KernelIdeal.main_v30) := by
  funext y
  obtain ⟨r, l, rfl⟩ : ∃ (r : Fin 10000) (l : Fin 128), y = ix2 r l := ⟨_, _, eq_ix2 y⟩
  refine (Cert.ReferenceIdeal.Whole.value m' c (args_eq h ▸ hF) r l).trans ?_
  rw [args_eq h]
  exact (Cert.KernelIdeal.Whole.value m g c r l).symm

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ReferenceRun
public import proofs.«01_k».proof.Proof.KernelRun
public import proofs.«01_k».proof.Proof.Meet
public import Idealize.ShloMosaic.Adequacy
public import Idealize.ShloMosaic.Init

@[expose] public section

noncomputable section

namespace Cert.Proof

open Idealize.ShloMosaic Idealize.SL.Sem

/-- The printed kernel runs to its end and leaves its arguments as they were. -/
theorem frame_kernel : Cert.quiescent_Kernel (hKernel := Cert.Kernel.Gen.facts) :=
  fun m g _ => Cert.Kernel.Gen.frame m g

/-- So does the kernel over the extended reals. -/
theorem frame_kernelIdeal : Cert.quiescent_KernelIdeal (hKernelIdeal := Cert.KernelIdeal.Gen.facts) :=
  fun m g _ => Cert.KernelIdeal.Gen.frame m g

/-- So does the reference. -/
theorem frame_reference : Cert.quiescent_ReferenceIdeal (hReferenceIdeal := Cert.ReferenceIdeal.Gen.facts) :=
  fun m g _ => (θ_run _ _ _).mono (fun _ h => ⟨fun c => (h.1 c).2, h.2⟩) (Cert.ReferenceIdeal.Value.run m g)

/-- The one rewrite of the kernel: the distance that stands for infinity is named. -/
theorem preserves : Cert.preserves_Kernel_KernelIdeal :=
  IdealRules.named_const.statement _ _ _ _ _ rfl

/-- Under the stated condition the kernel over the extended reals keeps its arguments as well. -/
theorem frame_kernelIdeal_finite : Cert.quiescent_KernelIdeal_pre_floats_finite
    (hKernelIdeal := Cert.KernelIdeal.Gen.facts) (hPre_floats_finite := Cert.Finite.facts) :=
  fun m g _ => Cert.KernelIdeal.Gen.frame m g

/-- And so does the reference. -/
theorem frame_reference_finite : Cert.quiescent_ReferenceIdeal_pre_floats_finite
    (hReferenceIdeal := Cert.ReferenceIdeal.Gen.facts) (hPre_floats_finite := Cert.Finite.facts) :=
  fun m g _ => (θ_run _ _ _).mono (fun _ h => ⟨fun c => (h.1 c).2, h.2⟩) (Cert.ReferenceIdeal.Value.run m g)

/-- From memories that agree on the arguments, every float of them finite, the kernel and the reference end with the
same three results. -/
theorem algebraic : Cert.algebraic_KernelIdeal_ReferenceIdeal_pre_floats_finite
    (hKernelIdeal := Cert.KernelIdeal.Gen.facts) (hReferenceIdeal := Cert.ReferenceIdeal.Gen.facts)
    (hPre_floats_finite := Cert.Finite.facts) := by
  intro m g m' g' hpre hagree
  refine ⟨fun c => Cert.KernelIdeal.Gen.W21 m g c (Proc.devRef .tc Cert.KernelIdeal.main_v30), fun c => m _, fun c => m _,
    (θ_run _ _ _).mono (fun _ h c => ?_) (Cert.KernelIdeal.Whole.run m g),
    (θ_run _ _ _).mono (fun _ h c => ?_) (Cert.ReferenceIdeal.Value.run m' g')⟩
  · obtain ⟨hv, hargs⟩ := h.1 c
    exact ⟨hv, hargs.2.1, hargs.2.2.1, hargs⟩
  · obtain ⟨hv, hargs⟩ := h.1 c
    exact ⟨hv.trans (Cert.Meet.result_eq g (hagree c) (Cert.Finite.args_finite m hpre c)),
      hargs.2.1.trans (hagree c).2.1, hargs.2.2.1.trans (hagree c).2.2.1, hargs⟩

/-- The certificate's claims. -/
theorem claim : Cert.Claim :=
  ⟨Cert.Kernel.Gen.facts, Cert.KernelIdeal.Gen.facts, Cert.ReferenceIdeal.Gen.facts, Cert.Finite.facts, frame_kernel,
    frame_kernelIdeal, frame_kernelIdeal_finite, frame_reference, frame_reference_finite, preserves, algebraic⟩

end Cert.Proof

end
